-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70_0) = v0 c
          ∧ r.2.mem ((c.tc : Thread Cert.ReferenceIdeal.nD Cert.ReferenceIdeal.τ).loc Cert.ReferenceIdeal.main_v70_1) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_v63) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S3x512x1536 : Shape := ⟨3, ![3, 512, 1536]⟩
abbrev S16 : Shape := ⟨1, ![16]⟩
abbrev S8960x768 : Shape := ⟨2, ![8960, 768]⟩
abbrev S8960x48 : Shape := ⟨2, ![8960, 48]⟩
abbrev S8960 : Shape := ⟨1, ![8960]⟩
abbrev S8 : Shape := ⟨1, ![8]⟩
abbrev S_ : Shape := ⟨0, ![]⟩
abbrev S8960x48x1 : Shape := ⟨3, ![8960, 48, 1]⟩
abbrev S1x1x8 : Shape := ⟨3, ![1, 1, 8]⟩
abbrev S8960x48x8 : Shape := ⟨3, ![8960, 48, 8]⟩

class Facts : Prop where
  bcast_S_S8 : S_.BroadcastsInDim S8 (![] : Fin 0 → Fin S8.rank)
  bcast_S8960x48_S8960x48x1_0_1 : S8960x48.BroadcastsInDim S8960x48x1 (![0, 1] : Fin 2 → Fin S8960x48x1.rank)
  bcast_S8_S1x1x8_2 : S8.BroadcastsInDim S1x1x8 (![2] : Fin 1 → Fin S1x1x8.rank)
  bcast_S8960x48x1_S8960x48x8_0_1_2 : S8960x48x1.BroadcastsInDim S8960x48x8 (![0, 1, 2] : Fin 3 → Fin S8960x48x8.rank)
  bcast_S1x1x8_S8960x48x8_0_1_2 : S1x1x8.BroadcastsInDim S8960x48x8 (![0, 1, 2] : Fin 3 → Fin S8960x48x8.rank)
  bcast_S_S8960x48x8 : S_.BroadcastsInDim S8960x48x8 (![] : Fin 0 → Fin S8960x48x8.rank)
  bcast_S_S16 : S_.BroadcastsInDim S16 (![] : Fin 0 → Fin S16.rank)
  reducesTo_S8960x48x8_S_d0_1_2 : S8960x48x8.ReducesTo [0, 1, 2] S_
  h_S_ : 0 < S_.numel
  reducesTo_S16_S_d0 : S16.ReducesTo [0] S_

variable [Facts]

def fn_part1 {F : FTy → Type} [FloatOps F] (main_v18 : IVec S8960x48x8 1) (main_v19 : FVec F S16 .f32) : IVec S_ 1 :=
  let main_cst : FVec F S_ .f32 := constant S_ .f32 0x7F7FFFFF#32
  let main_v20 : FVec F S16 .f32 := broadcastInDim S16 ![] bcast_S_S16 main_cst
  let main_v21 : IVec S16 1 := cmpf .ole main_v19 main_v20
  let main_c_3 : IVec S_ 1 := constantI S_ 1 1#1
  let main_v22 : IVec S_ 1 := (fun x v => Host.reduce IntOp.andi x v reducesTo_S8960x48x8_S_d0_1_2 h_S_) main_v18 main_c_3
  let main_c_4 : IVec S_ 1 := constantI S_ 1 1#1
  let main_v23 : IVec S_ 1 := (fun x v => Host.reduce IntOp.andi x v reducesTo_S16_S_d0 h_S_) main_v21 main_c_4
  let main_v24 : IVec S_ 1 := andi main_v22 main_v23
  main_v24

def fn {F : FTy → Type} [FloatOps F] (main_arg0 : FVec F S3x512x1536 .bf16) (main_arg1 : FVec F S16 .f32) (main_arg2 : IVec S8960x768 8) (main_arg3 : IVec S8960x48 32) (main_arg4 : FVec F S8960 .f32) : IVec S_ 1 :=
  let main_v0 : IVec S8 32 := iotaInDim S8 32 0
  let main_c : IVec S_ 32 := constantI S_ 32 4#32
  let main_v1 : IVec S8 32 := broadcastInDim S8 ![] bcast_S_S8 main_c
  let main_v2 : IVec S8 32 := muli main_v1 main_v0
  let main_v3 : IVec S8960x48x1 32 := broadcastInDim S8960x48x1 ![0, 1] bcast_S8960x48_S8960x48x1_0_1 main_arg3
  let main_v4 : IVec S1x1x8 32 := broadcastInDim S1x1x8 ![2] bcast_S8_S1x1x8_2 main_v2
  let main_v5 : IVec S8960x48x8 32 := broadcastInDim S8960x48x8 ![0, 1, 2] bcast_S8960x48x1_S8960x48x8_0_1_2 main_v3
  let main_v6 : IVec S8960x48x8 32 := broadcastInDim S8960x48x8 ![0, 1, 2] bcast_S1x1x8_S8960x48x8_0_1_2 main_v4
  let main_v7 : IVec S8960x48x8 32 := Host.shrsi main_v5 main_v6
  let main_c_0 : IVec S_ 32 := constantI S_ 32 3#32
  let main_v8 : IVec S8960x48x8 32 := broadcastInDim S8960x48x8 ![] bcast_S_S8960x48x8 main_c_0
  let main_v9 : IVec S8960x48x8 32 := andi main_v7 main_v8
  let main_c_1 : IVec S_ 32 := constantI S_ 32 2#32
  let main_v10 : IVec S8 32 := broadcastInDim S8 ![] bcast_S_S8 main_c_1
  let main_v11 : IVec S8 32 := addi main_v2 main_v10
  let main_v12 : IVec S1x1x8 32 := broadcastInDim S1x1x8 ![2] bcast_S8_S1x1x8_2 main_v11
  let main_v13 : IVec S8960x48x8 32 := broadcastInDim S8960x48x8 ![0, 1, 2] bcast_S8960x48x1_S8960x48x8_0_1_2 main_v3
  let main_v14 : IVec S8960x48x8 32 := broadcastInDim S8960x48x8 ![0, 1, 2] bcast_S1x1x8_S8960x48x8_0_1_2 main_v12
  let main_v15 : IVec S8960x48x8 32 := Host.shrsi main_v13 main_v14
  let main_c_2 : IVec S_ 32 := constantI S_ 32 3#32
  let main_v16 : IVec S8960x48x8 32 := broadcastInDim S8960x48x8 ![] bcast_S_S8960x48x8 main_c_2
  let main_v17 : IVec S8960x48x8 32 := andi main_v15 main_v16
  let main_v18 : IVec S8960x48x8 1 := cmpi .ne main_v9 main_v17
  let main_v19 : FVec F S16 .f32 := Host.absf main_arg1
  fn_part1 (F := F) main_v18 main_v19
-- ==== Kernel.lean ====
abbrev S3x512x1536 : Shape := ⟨3, ![3, 512, 1536]⟩
abbrev S16 : Shape := ⟨1, ![16]⟩
abbrev S8960x768 : Shape := ⟨2, ![8960, 768]⟩
abbrev S8960x48 : Shape := ⟨2, ![8960, 48]⟩
abbrev S8960 : Shape := ⟨1, ![8960]⟩
abbrev S1536x1536 : Shape := ⟨2, ![1536, 1536]⟩
abbrev S48x8960 : Shape := ⟨2, ![48, 8960]⟩
abbrev S1x8960 : Shape := ⟨2, ![1, 8960]⟩
abbrev S1536x8960 : Shape := ⟨2, ![1536, 8960]⟩
abbrev S1 : Shape := ⟨1, ![1]⟩
abbrev S1280x768 : Shape := ⟨2, ![1280, 768]⟩
abbrev S48x1280 : Shape := ⟨2, ![48, 1280]⟩
abbrev S1x1280 : Shape := ⟨2, ![1, 1280]⟩
abbrev S1536x1280 : Shape := ⟨2, ![1536, 1280]⟩
abbrev S1x1536x1536 : Shape := ⟨3, ![1, 1536, 1536]⟩
abbrev S1x1x1 : Shape := ⟨3, ![1, 1, 1]⟩
abbrev S8x128 : Shape := ⟨2, ![8, 128]⟩
abbrev S128x768 : Shape := ⟨2, ![128, 768]⟩
abbrev S768x128 : Shape := ⟨2, ![768, 128]⟩
abbrev S384x128 : Shape := ⟨2, ![384, 128]⟩
abbrev S1x128 : Shape := ⟨2, ![1, 128]⟩
abbrev S32x128 : Shape := ⟨2, ![32, 128]⟩

abbrev nBuf : Space → Nat
  | .hbm => 12
  | .vmem => 11
  | .smem => 3
  | _ => 0

abbrev bufTy : (tb : Table) → Fin (tcTables nBuf tb) → BufTy
  | .hbm, ⟨0, _⟩ => ⟨S3x512x1536, .bf16⟩
  | .hbm, ⟨1, _⟩ => ⟨S16, .f32⟩
  | .hbm, ⟨2, _⟩ => ⟨S8960x768, .i8⟩
  | .hbm, ⟨3, _⟩ => ⟨S8960x48, .i32⟩
  | .hbm, ⟨4, _⟩ => ⟨S8960, .f32⟩
  | .hbm, ⟨5, _⟩ => ⟨S1536x1536, .bf16⟩
  | .hbm, ⟨6, _⟩ => ⟨S48x8960, .i32⟩
  | .hbm, ⟨7, _⟩ => ⟨S1x8960, .f32⟩
  | .hbm, ⟨8, _⟩ => ⟨S1536x8960, .bf16⟩
  | .hbm, ⟨9, _⟩ => ⟨S1536x1536, .fp8e4m3⟩
  | .hbm, ⟨10, _⟩ => ⟨S1, .f32⟩
  | .hbm, ⟨11, _⟩ => ⟨S16, .f32⟩
  | .local _ .vmem, ⟨0, _⟩ => ⟨S1536x1536, .bf16⟩
  | .local _ .vmem, ⟨1, _⟩ => ⟨S1280x768, .i8⟩
  | .local _ .vmem, ⟨2, _⟩ => ⟨S1280x768, .i8⟩
  | .local _ .vmem, ⟨3, _⟩ => ⟨S48x1280, .i32⟩
  | .local _ .vmem, ⟨4, _⟩ => ⟨S48x1280, .i32⟩
  | .local _ .vmem, ⟨5, _⟩ => ⟨S1x1280, .f32⟩
  | .local _ .vmem, ⟨6, _⟩ => ⟨S1x1280, .f32⟩
  | .local _ .vmem, ⟨7, _⟩ => ⟨S1536x1280, .bf16⟩
  | .local _ .vmem, ⟨8, _⟩ => ⟨S1536x1280, .bf16⟩
  | .local _ .vmem, ⟨9, _⟩ => ⟨S1536x1536, .fp8e4m3⟩
  | .local _ .vmem, ⟨10, _⟩ => ⟨S1536x1280, .fp8e4m3⟩
  | .local _ .smem, ⟨0, _⟩ => ⟨S16, .f32⟩
  | .local _ .smem, ⟨1, _⟩ => ⟨S1, .f32⟩
  | .local _ .smem, ⟨2, _⟩ => ⟨S16, .f32⟩
  | _, _ => ⟨S3x512x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_stg0_0 : Ref sig .tc := ⟨.smem, 0, rfl⟩
abbrev cc0_stg7_0 : Ref sig .tc := ⟨.smem, 1, rfl⟩
abbrev cc0_stg8_0 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![7], ![false]⟩

def k0_cond1 (i : grid0.Coords) : BitVec 1 :=
  let arg0 : BitVec 32 := BitVec.ofNat 32 (i 0).val
  let c0_i32_21 : BitVec 32 := 0#32
  let v104 : BitVec 1 := Scalar.cmpi .eq arg0 c0_i32_21
  let v105 : BitVec 32 := Scalar.extui v104
  let c0_i32_22 : BitVec 32 := 0#32
  let v106 : BitVec 1 := Scalar.cmpi .ne v105 c0_i32_22
  v106

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1280x768 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S48x1280 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1536x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1536x1536 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S3x512x1536 : Shape := ⟨3, ![3, 512, 1536]⟩
abbrev S16 : Shape := ⟨1, ![16]⟩
abbrev S8960x768 : Shape := ⟨2, ![8960, 768]⟩
abbrev S8960x48 : Shape := ⟨2, ![8960, 48]⟩
abbrev S8960 : Shape := ⟨1, ![8960]⟩
abbrev S_ : Shape := ⟨0, ![]⟩
abbrev S254 : Shape := ⟨1, ![254]⟩
abbrev S8 : Shape := ⟨1, ![8]⟩
abbrev S8960x48x1 : Shape := ⟨3, ![8960, 48, 1]⟩
abbrev S1x1x8 : Shape := ⟨3, ![1, 1, 8]⟩
abbrev S8960x48x8 : Shape := ⟨3, ![8960, 48, 8]⟩
abbrev S8960x48x8x2 : Shape := ⟨4, ![8960, 48, 8, 2]⟩
abbrev S8960x48x8x1 : Shape := ⟨4, ![8960, 48, 8, 1]⟩
abbrev S4 : Shape := ⟨1, ![4]⟩
abbrev S1x1x1x4 : Shape := ⟨4, ![1, 1, 1, 4]⟩
abbrev S8960x48x8x4 : Shape := ⟨4, ![8960, 48, 8, 4]⟩
abbrev S1 : Shape := ⟨1, ![1]⟩
abbrev S15 : Shape := ⟨1, ![15]⟩
abbrev S1536x1536 : Shape := ⟨2, ![1536, 1536]⟩
abbrev S1x1 : Shape := ⟨2, ![1, 1]⟩
abbrev S8960x1536 : Shape := ⟨2, ![8960, 1536]⟩
abbrev S1x8960 : Shape := ⟨2, ![1, 8960]⟩
abbrev S1536x8960 : Shape := ⟨2, ![1536, 8960]⟩

abbrev nBuf : Space → Nat
  | .hbm => 97
  | .vmem => 7
  | .smem => 0
  | _ => 0

abbrev bufTy : (tb : Table) → Fin (tcTables nBuf tb) → BufTy
  | .hbm, ⟨0, _⟩ => ⟨S3x512x1536, .bf16⟩
  | .hbm, ⟨1, _⟩ => ⟨S16, .f32⟩
  | .hbm, ⟨2, _⟩ => ⟨S8960x768, .i8⟩
  | .hbm, ⟨3, _⟩ => ⟨S8960x48, .i32⟩
  | .hbm, ⟨4, _⟩ => ⟨S8960, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S254, .i32⟩
  | .hbm, ⟨11, _⟩ => ⟨S_, .i32⟩
  | .hbm, ⟨12, _⟩ => ⟨S254, .i32⟩
  | .hbm, ⟨13, _⟩ => ⟨S254, .i32⟩
  | .hbm, ⟨14, _⟩ => ⟨S254, .f32⟩
  | .hbm, ⟨15, _⟩ => ⟨S_, .f32⟩
  | .hbm, ⟨16, _⟩ => ⟨S254, .f32⟩
  | .hbm, ⟨17, _⟩ => ⟨S254, .f32⟩
  | .hbm, ⟨18, _⟩ => ⟨S254, .f32⟩
  | .hbm, ⟨19, _⟩ => ⟨S254, .i1⟩
  | .hbm, ⟨20, _⟩ => ⟨S254, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S8, .i32⟩
  | .hbm, ⟨37, _⟩ => ⟨S_, .i32⟩
  | .hbm, ⟨38, _⟩ => ⟨S8, .i32⟩
  | .hbm, ⟨39, _⟩ => ⟨S8, .i32⟩
  | .hbm, ⟨40, _⟩ => ⟨S8960x48x1, .i32⟩
  | .hbm, ⟨41, _⟩ => ⟨S1x1x8, .i32⟩
  | .hbm, ⟨42, _⟩ => ⟨S8960x48x8, .i32⟩
  | .hbm, ⟨43, _⟩ => ⟨S8960x48x8, .i32⟩
  | .hbm, ⟨44, _⟩ => ⟨S8960x48x8, .i32⟩
  | .hbm, ⟨45, _⟩ => ⟨S_, .i32⟩
  | .hbm, ⟨46, _⟩ => ⟨S8960x48x8, .i32⟩
  | .hbm, ⟨47, _⟩ => ⟨S8960x48x8, .i32⟩
  | .hbm, ⟨48, _⟩ => ⟨S_, .i32⟩
  | .hbm, ⟨49, _⟩ => ⟨S8, .i32⟩
  | .hbm, ⟨50, _⟩ => ⟨S8, .i32⟩
  | .hbm, ⟨51, _⟩ => ⟨S1x1x8, .i32⟩
  | .hbm, ⟨52, _⟩ => ⟨S8960x48x8, .i32⟩
  | .hbm, ⟨53, _⟩ => ⟨S8960x48x8, .i32⟩
  | .hbm, ⟨54, _⟩ => ⟨S8960x48x8, .i32⟩
  | .hbm, ⟨55, _⟩ => ⟨S_, .i32⟩
  | .hbm, ⟨56, _⟩ => ⟨S8960x48x8, .i32⟩
  | .hbm, ⟨57, _⟩ => ⟨S8960x48x8, .i32⟩
  | .hbm, ⟨58, _⟩ => ⟨S8960x48x8x2, .i8⟩
  | .hbm, ⟨59, _⟩ => ⟨S8960x48x8x1, .i8⟩
  | .hbm, ⟨60, _⟩ => ⟨S8960x48x8, .i8⟩
  | .hbm, ⟨61, _⟩ => ⟨S8960x48x8x1, .i8⟩
  | .hbm, ⟨62, _⟩ => ⟨S8960x48x8, .i8⟩
  | .hbm, ⟨63, _⟩ => ⟨S4, .i32⟩
  | .hbm, ⟨64, _⟩ => ⟨S8960x48x8x1, .i32⟩
  | .hbm, ⟨65, _⟩ => ⟨S1x1x1x4, .i32⟩
  | .hbm, ⟨66, _⟩ => ⟨S8960x48x8x4, .i32⟩
  | .hbm, ⟨67, _⟩ => ⟨S8960x48x8x4, .i32⟩
  | .hbm, ⟨68, _⟩ => ⟨S8960x48x8x4, .i1⟩
  | .hbm, ⟨69, _⟩ => ⟨S8960x48x8x1, .i8⟩
  | .hbm, ⟨70, _⟩ => ⟨S8960x48x8x1, .i32⟩
  | .hbm, ⟨71, _⟩ => ⟨S1x1x1x4, .i32⟩
  | .hbm, ⟨72, _⟩ => ⟨S8960x48x8x4, .i32⟩
  | .hbm, ⟨73, _⟩ => ⟨S8960x48x8x4, .i32⟩
  | .hbm, ⟨74, _⟩ => ⟨S8960x48x8x4, .i1⟩
  | .hbm, ⟨75, _⟩ => ⟨S8960x48x8x1, .i8⟩
  | .hbm, ⟨76, _⟩ => ⟨S_, .i8⟩
  | .hbm, ⟨77, _⟩ => ⟨S8960x48x8x4, .i8⟩
  | .hbm, ⟨78, _⟩ => ⟨S8960x48x8x4, .i8⟩
  | .hbm, ⟨79, _⟩ => ⟨S8960x48x8x4, .i8⟩
  | .hbm, ⟨80, _⟩ => ⟨S8960x48x8x4, .i8⟩
  | .hbm, ⟨81, _⟩ => ⟨S8960x48x8x4, .i8⟩
  | .hbm, ⟨82, _⟩ => ⟨S3x512x1536, .f32⟩
  | .hbm, ⟨83, _⟩ => ⟨S3x512x1536, .f32⟩
  | .hbm, ⟨84, _⟩ => ⟨S_, .f32⟩
  | .hbm, ⟨85, _⟩ => ⟨S_, .f32⟩
  | .hbm, ⟨86, _⟩ => ⟨S1, .f32⟩
  | .hbm, ⟨87, _⟩ => ⟨S15, .f32⟩
  | .hbm, ⟨88, _⟩ => ⟨S16, .f32⟩
  | .hbm, ⟨89, _⟩ => ⟨S1, .f32⟩
  | .hbm, ⟨90, _⟩ => ⟨S1536x1536, .bf16⟩
  | .hbm, ⟨91, _⟩ => ⟨S1x1, .f32⟩
  | .hbm, ⟨92, _⟩ => ⟨S1x1, .f32⟩
  | .hbm, ⟨93, _⟩ => ⟨S8960x1536, .i8⟩
  | .hbm, ⟨94, _⟩ => ⟨S1x8960, .f32⟩
  | .hbm, ⟨95, _⟩ => ⟨S1536x8960, .bf16⟩
  | .hbm, ⟨96, _⟩ => ⟨S1536x1536, .fp8e4m3⟩
  | .local _ .vmem, ⟨0, _⟩ => ⟨S1536x1536, .bf16⟩
  | .local _ .vmem, ⟨1, _⟩ => ⟨S1x1, .f32⟩
  | .local _ .vmem, ⟨2, _⟩ => ⟨S1x1, .f32⟩
  | .local _ .vmem, ⟨3, _⟩ => ⟨S8960x1536, .i8⟩
  | .local _ .vmem, ⟨4, _⟩ => ⟨S1x8960, .f32⟩
  | .local _ .vmem, ⟨5, _⟩ => ⟨S1536x8960, .bf16⟩
  | .local _ .vmem, ⟨6, _⟩ => ⟨S1536x1536, .fp8e4m3⟩
  | _, _ => ⟨S3x512x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_c_5 : Ref sig .tc := ⟨.hbm, 27, rfl⟩
abbrev main_call0_v0 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_cst_7 : Ref sig .tc := ⟨.hbm, 34, rfl⟩
abbrev main_v19 : Ref sig .tc := ⟨.hbm, 35, rfl⟩
abbrev main_v20 : Ref sig .tc := ⟨.hbm, 36, rfl⟩
abbrev main_c_8 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_9 : Ref sig .tc := ⟨.hbm, 45, rfl⟩
abbrev main_v28 : Ref sig .tc := ⟨.hbm, 46, rfl⟩
abbrev main_v29 : Ref sig .tc := ⟨.hbm, 47, rfl⟩
abbrev main_c_10 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_11 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c_12 : Ref sig .tc := ⟨.hbm, 76, rfl⟩
abbrev main_call1_v0 : Ref sig .tc := ⟨.hbm, 77, rfl⟩
abbrev main_call1_v1 : Ref sig .tc := ⟨.hbm, 78, rfl⟩
abbrev main_v56 : Ref sig .tc := ⟨.hbm, 79, rfl⟩
abbrev main_call2_v0 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_13 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70_0 : Ref sig .tc := ⟨.hbm, 95, rfl⟩
abbrev main_v70_1 : Ref sig .tc := ⟨.hbm, 96, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1536x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8960x1536 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8960 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x8960 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x1536 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Body.lean ====
module

public import proofs.«01_k».proof.Proof.Gen.KernelIdeal.Frame
public import proofs.«01_k».proof.Proof.Gen.KernelIdeal.Skeleton
public import Idealize.ShloMosaic.Lib.Pipeline.ReadBack

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 7 = 0 :=
  (fun t => by
    have ht : t.val < 7 := Nat.lt_of_lt_of_eq t.isLt N_0
    have e0 : (grid0.coords t 0).val = t.val / 1 % 7 := Pipeline.Grid.coords_val t 0 (by decide) rfl
    simp only [cond0_0, k0_cond1, e0]
    word_cmp
   : ∀ t : Fin grid0.N, cond0_0 (grid0.coords t) ↔ t.val % 7 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S16 .f32 := win0_0.stage (cfg0.slots t 0)
/-- The staging buffer of the record of maxima is a whole buffer. -/
abbrev hs0_0 (t : Fin cfg0.N) : (ms0_0 t).IsWhole := hstage0_0 ((cfg0.slots t 0).cast nbuf0_0)
/-- The staging buffer of the activations at point `t`. -/
abbrev ms0_1 (t : Fin cfg0.N) : Memref sig .tc .vmem S1536x1536 .bf16 := win0_1.stage (cfg0.slots t 1)
/-- The staging buffer of the activations is a whole buffer. -/
abbrev hs0_1 (t : Fin cfg0.N) : (ms0_1 t).IsWhole := hstage0_1 ((cfg0.slots t 1).cast nbuf0_1)
/-- The staging buffer of the value bytes at point `t`. -/
abbrev ms0_2 (t : Fin cfg0.N) : Memref sig .tc .vmem S1280x768 .i8 := win0_2.stage (cfg0.slots t 2)
/-- The staging buffer of the value bytes is a whole buffer. -/
abbrev hs0_2 (t : Fin cfg0.N) : (ms0_2 t).IsWhole := hstage0_2 ((cfg0.slots t 2).cast nbuf0_2)
/-- The staging buffer of the index words at point `t`. -/
abbrev ms0_3 (t : Fin cfg0.N) : Memref sig .tc .vmem S48x1280 .i32 := win0_3.stage (cfg0.slots t 3)
/-- The staging buffer of the index words is a whole buffer. -/
abbrev hs0_3 (t : Fin cfg0.N) : (ms0_3 t).IsWhole := hstage0_3 ((cfg0.slots t 3).cast nbuf0_3)
/-- The staging buffer of the weight scales at point `t`. -/
abbrev ms0_4 (t : Fin cfg0.N) : Memref sig .tc .vmem S1x1280 .f32 := win0_4.stage (cfg0.slots t 4)
/-- The staging buffer of the weight scales is a whole buffer. -/
abbrev hs0_4 (t : Fin cfg0.N) : (ms0_4 t).IsWhole := hstage0_4 ((cfg0.slots t 4).cast nbuf0_4)
/-- The staging buffer of the product at point `t`. -/
abbrev ms0_5 (t : Fin cfg0.N) : Memref sig .tc .vmem S1536x1280 .bf16 := win0_5.stage (cfg0.slots t 5)
/-- The staging buffer of the product is a whole buffer. -/
abbrev hs0_5 (t : Fin cfg0.N) : (ms0_5 t).IsWhole := hstage0_5 ((cfg0.slots t 5).cast nbuf0_5)
/-- The staging buffer of the codes at point `t`. -/
abbrev ms0_6 (t : Fin cfg0.N) : Memref sig .tc .vmem S1536x1536 .fp8e4m3 := win0_6.stage (cfg0.slots t 6)
/-- The staging buffer of the codes is a whole buffer. -/
abbrev hs0_6 (t : Fin cfg0.N) : (ms0_6 t).IsWhole := hstage0_6 ((cfg0.slots t 6).cast nbuf0_6)
/-- The staging buffer of the scale at point `t`. -/
abbrev ms0_7 (t : Fin cfg0.N) : Memref sig .tc .smem S1 .f32 := win0_7.stage (cfg0.slots t 7)
/-- The staging buffer of the scale is a whole buffer. -/
abbrev hs0_7 (t : Fin cfg0.N) : (ms0_7 t).IsWhole := hstage0_7 ((cfg0.slots t 7).cast nbuf0_7)
/-- The staging buffer of the new record of maxima at point `t`. -/
abbrev ms0_8 (t : Fin cfg0.N) : Memref sig .tc .smem S16 .f32 := win0_8.stage (cfg0.slots t 8)
/-- The staging buffer of the new record of maxima is a whole buffer. -/
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S1536x1280 .fp8e4m3 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Gen

end
-- ==== Proof.Weight.lean ====
module

public import proofs.«01_k».proof.Proof.Body
public import Idealize.ShloMosaic.Lib.ValueIdxCore

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The dense weight block the body decodes

The body fills its scratch of 1536 × 1280 fp8 numbers in tiles of 32 × 128, each from 8 × 128 words of the transposed value bytes
and one row of 128 index words. -/

/-- The tile made of a `384 × 128` block of words `vw`, of its rows from `8·g` on, and of a row `ir` of index words. -/
def tileOf (g : Fin 48) (vw : IVec S384x128 32) (ir : Vec F S1x128 .i32) : FVec F S32x128 .fp8e4m3 :=
  k0_pay26 k0_pay23
    (extractStridedSlice S8x128 ![8 * g.val, 0] vw ⟨rfl, Fin.forall_fin_two.mpr ⟨by have := g.isLt; show 8 * g.val + 8 ≤ 384; omega, Nat.le_refl 128⟩⟩) ir

/-- The tile of row group `g` and column group `n`, of the block's value bytes `x2` and index words `x3`. -/
def tileAt (x2 : Vec F S1280x768 .i8) (x3 : Vec F S48x1280 .i32) (n : Fin 10) (g : Fin 48) : FVec F S32x128 .fp8e4m3 :=
  tileOf g
    (k0_pay24 (View.ld x2 (Rect.unit (s := S1280x768) ![128 * n.val, 0] S128x768.size
      (Fin.forall_fin_two.mpr ⟨by have := n.isLt; show 128 * n.val + 128 ≤ 1280; omega, Nat.le_refl 768⟩))))
    (View.ld x3 (Rect.unit (s := S48x1280) ![g.val, 128 * n.val] S1x128.size
      (Fin.forall_fin_two.mpr ⟨by have := g.isLt; show g.val + 1 ≤ 48; omega, by have := n.isLt; show 128 * n.val + 128 ≤ 1280; omega⟩)))

/-- The dense weight block: at row `k` and column `l` the tile of row group `k / 32` and column group `l / 128`, at `(k % 32, l % 128)`. -/
def wOf (x2 : Vec F S1280x768 .i8) (x3 : Vec F S48x1280 .i32) : Vec F S1536x1280 .fp8e4m3 := fun y =>
  tileAt x2 x3 ⟨(y 1).val / 128, by have : (y 1).val < 1280 := (y 1).isLt; omega⟩ ⟨(y 0).val / 32, by have : (y 0).val < 1536 := (y 0).isLt; omega⟩
    (ValueIdx.ix2 ⟨(y 0).val % 32, Nat.mod_lt _ (by decide)⟩ ⟨(y 1).val % 128, Nat.mod_lt _ (by decide)⟩)

/-- The part of the dense weight block under a tile at row `32·g` and column `128·n` is that tile. -/
theorem wOf_tile (x2 : Vec F S1280x768 .i8) (x3 : Vec F S48x1280 .i32) (o0 o1 : ℕ)
    (inb : ∀ a, (![o0, o1] : Fin 2 → ℕ) a + S32x128.size a ≤ S1536x1280.size a) (h0 : o0 % 32 = 0) (h1 : o1 % 128 = 0) (x : S32x128.Idx) :
    wOf x2 x3 ((Rect.unit (s := S1536x1280) ![o0, o1] S32x128.size inb).emb x)
      = tileAt x2 x3 ⟨o1 / 128, by have : o1 + 128 ≤ 1280 := inb 1; omega⟩ ⟨o0 / 32, by have : o0 + 32 ≤ 1536 := inb 0; omega⟩ x := by
  have hx0 : (x 0).val < 32 := (x 0).isLt
  have hx1 : (x 1).val < 128 := (x 1).isLt
  have e0 : (((Rect.unit (s := S1536x1280) ![o0, o1] S32x128.size inb).emb x) 0).val = o0 + (x 0).val := by
    rw [Rect.emb_apply]; show o0 + 1 * _ = _; omega
  have e1 : (((Rect.unit (s := S1536x1280) ![o0, o1] S32x128.size inb).emb x) 1).val = o1 + (x 1).val := by
    rw [Rect.emb_apply]; show o1 + 1 * _ = _; omega
  generalize hy : (Rect.unit (s := S1536x1280) ![o0, o1] S32x128.size inb).emb x = y at e0 e1 ⊢
  unfold wOf
  congr 1
  · exact Fin.ext (by show (y 1).val / 128 = o1 / 128; omega)
  · exact Fin.ext (by show (y 0).val / 32 = o0 / 32; omega)
  · funext a
    match a with
    | 0 => exact Fin.ext (by show (y 0).val % 32 = (x 0).val; omega)
    | 1 => exact Fin.ext (by show (y 1).val % 128 = (x 1).val; omega)

/-- The same, the tile written as the body writes it: the rows read at literal places. -/
theorem wOf_tile_lit (x2 : Vec F S1280x768 .i8) (x3 : Vec F S48x1280 .i32) (o0 o1 s r : ℕ)
    (inb : ∀ a, (![o0, o1] : Fin 2 → ℕ) a + S32x128.size a ≤ S1536x1280.size a)
    (inb2 : ∀ a, (![o1, 0] : Fin 2 → ℕ) a + S128x768.size a ≤ S1280x768.size a)
    (inb3 : ∀ a, (![r, o1] : Fin 2 → ℕ) a + S1x128.size a ≤ S48x1280.size a)
    (hs : S384x128.Slices ![s, 0] S8x128) (h0 : o0 = 32 * r) (h1 : s = 8 * r) (h2 : o1 % 128 = 0) (x : S32x128.Idx) :
    wOf x2 x3 ((Rect.unit (s := S1536x1280) ![o0, o1] S32x128.size inb).emb x)
      = k0_pay26 k0_pay23 (extractStridedSlice S8x128 ![s, 0] (k0_pay24 (View.ld x2 (Rect.unit (s := S1280x768) ![o1, 0] S128x768.size inb2))) hs)
        (View.ld x3 (Rect.unit (s := S48x1280) ![r, o1] S1x128.size inb3)) x := by
  obtain ⟨n, rfl⟩ : ∃ n, o1 = 128 * n := ⟨o1 / 128, by omega⟩
  have hr : r + 1 ≤ 48 := inb3 0
  have hn : 128 * n + 128 ≤ 1280 := inb2 0
  rw [wOf_tile x2 x3 o0 (128 * n) inb (by omega) h2 x]
  have e0 : (⟨o0 / 32, by omega⟩ : Fin 48) = ⟨r, by omega⟩ := Fin.ext (by show o0 / 32 = r; omega)
  have e1 : (⟨128 * n / 128, by omega⟩ : Fin 10) = ⟨n, by omega⟩ := Fin.ext (by show 128 * n / 128 = n; omega)
  rw [e0, e1]
  subst h1
  rfl

/-- A tile stored at row `o0` and column `o1`, made of the words and the index row that belong there, is the part of the dense weight block it covers. -/
theorem piece_eq {x2 : Vec F S1280x768 .i8} {x3 : Vec F S48x1280 .i32} {o0 o1 : ℕ}
    (inb : ∀ a, (![o0, o1] : Fin 2 → ℕ) a + S32x128.size a ≤ S1536x1280.size a) (h0 : o0 % 32 = 0) (h1 : o1 % 128 = 0)
    {w : Vec F S32x128 .fp8e4m3}
    (hw : ∀ s r : ℕ, o0 / 4 = s → o0 / 32 = r →
      ∀ (inb2 : ∀ a, (![o1, 0] : Fin 2 → ℕ) a + S128x768.size a ≤ S1280x768.size a)
        (inb3 : ∀ a, (![r, o1] : Fin 2 → ℕ) a + S1x128.size a ≤ S48x1280.size a) (hs : S384x128.Slices ![s, 0] S8x128),
      k0_pay26 k0_pay23 (extractStridedSlice S8x128 ![s, 0] (k0_pay24 (View.ld x2 (Rect.unit (s := S1280x768) ![o1, 0] S128x768.size inb2))) hs)
        (View.ld x3 (Rect.unit (s := S48x1280) ![r, o1] S1x128.size inb3)) = w) (x : S32x128.Idx) :
    w x = wOf x2 x3 ((Rect.unit (s := S1536x1280) ![o0, o1] S32x128.size inb).emb x) := by
  have b0 : o0 + 32 ≤ 1536 := inb 0
  have b1 : o1 + 128 ≤ 1280 := inb 1
  have inb2 : ∀ a, (![o1, 0] : Fin 2 → ℕ) a + S128x768.size a ≤ S1280x768.size a :=
    Fin.forall_fin_two.mpr ⟨b1, Nat.le_refl 768⟩
  have inb3 : ∀ a, (![o0 / 32, o1] : Fin 2 → ℕ) a + S1x128.size a ≤ S48x1280.size a :=
    Fin.forall_fin_two.mpr ⟨by show o0 / 32 + 1 ≤ 48; omega, b1⟩
  have hs : S384x128.Slices ![o0 / 4, 0] S8x128 :=
    ⟨rfl, Fin.forall_fin_two.mpr ⟨by show o0 / 4 + 8 ≤ 384; omega, Nat.le_refl 128⟩⟩
  exact (congrFun (hw _ _ rfl rfl inb2 inb3 hs) x).symm.trans
    (wOf_tile_lit x2 x3 o0 o1 (o0 / 4) (o0 / 32) inb inb2 inb3 hs (by omega) (by omega) h1 x).symm

end Cert.KernelIdeal.Gen
end
-- ==== Proof.Outs.lean ====
module

public import proofs.«01_k».proof.Proof.Weight

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves in the outputs' buffers -/

/-- The power of two with exponent `n`, as the body writes it: the float whose exponent field is `n + 127`. -/
def pow2 (n : BitVec 32) : F .f32 := Scalar.ofBits .f32 (Scalar.shli (Scalar.addi n 127#32) 23#32)

/-- One step of the body's search for an exponent field: it adds `b` to the field `n` where the magnitude `a` reaches the power of two `n + k`. -/
def step (a : F .f32) (b k n : BitVec 32) : BitVec 32 :=
  Scalar.select (Scalar.cmpf .oge a (pow2 (Scalar.addi n k))) (Scalar.addi n b) n

/-- The exponent field of `v`, by eight such steps. -/
def fieldOf (v : F .f32) : BitVec 32 :=
  (step (Scalar.absf v) 1#32 4294967170#32 (step (Scalar.absf v) 2#32 4294967171#32 (step (Scalar.absf v) 4#32 4294967173#32 (step (Scalar.absf v) 8#32 4294967177#32 (step (Scalar.absf v) 16#32 4294967185#32 (step (Scalar.absf v) 32#32 4294967201#32 (step (Scalar.absf v) 64#32 4294967233#32 (step (Scalar.absf v) 128#32 1#32 0#32))))))))

/-- The exponent the body takes from a field: `0` at the fields `0` and `255`, and the field less 126 at the others. -/
def expOf (n : BitVec 32) : BitVec 32 :=
  Scalar.select (Scalar.ori (Scalar.cmpi .eq n 0#32) (Scalar.cmpi .eq n 255#32)) 0#32 (Scalar.subi n 126#32)

/-- Word `j` of a vector of 16. -/
def wordAt (x0 : Vec F S16 .f32) (j : ℕ) (h : j < 16) : F .f32 := x0 (ValueIdx.ix1 ⟨j, h⟩)

/-- Stores that all agree with `G` and together cover the buffer leave `G` in it. -/
theorem canon_eq_of {S : Shape} {e : EltTy} (G : S.Idx → Elt F e) (L : List (View.Piece (Elt F) S e)) (hL : View.PiecesOf G L)
    (hc : ∀ y, ∃ p ∈ L, y ∈ p.1.set) : View.canon (Val := Elt F) L = G :=
  funext fun y => View.canon_apply_of_pieces G L hL.mem y (hc y)

/-- A word loaded from the buffer of 16 is that word of what the buffer holds. -/
theorem load_word (v : View sig .tc .smem S16 .f32) (f : v.ty.Contents (Elt F)) (j : ℕ) (h : j < 16) (inb) (hp) :
    View.readAt (Elt F) v (Rect.unit (s := S16) ![j] S1.size inb).toLoadRect f (Shape.Idx.first hp) = wordAt (View.read (Elt F) v f) j h := by
  rw [View.readAt_eq_ld]
  unfold wordAt
  show View.read (Elt F) v f _ = _
  congr 1
  funext a
  match a with
  | 0 => exact Fin.ext (by show j + 1 * 0 = j; omega)

/-- The largest of the 16 recorded maxima, divided by 448. -/
def amaxOf (x0 : Vec F S16 .f32) : F .f32 :=
  k0_pay5 (wordAt x0 0 (by decide)) (wordAt x0 1 (by decide)) (wordAt x0 2 (by decide)) (wordAt x0 3 (by decide)) (wordAt x0 4 (by decide)) (wordAt x0 5 (by decide)) (wordAt x0 6 (by decide)) (wordAt x0 7 (by decide)) (wordAt x0 8 (by decide)) (wordAt x0 9 (by decide)) (wordAt x0 10 (by decide)) (wordAt x0 11 (by decide)) (wordAt x0 12 (by decide)) (wordAt x0 13 (by decide)) (wordAt x0 14 (by decide)) (wordAt x0 15 (by decide))

/-- The exponent of the scale. -/
def exponentOf (x0 : Vec F S16 .f32) : BitVec 32 := expOf (fieldOf (amaxOf x0))

/-- The scale. -/
def scaleOf (x0 : Vec F S16 .f32) : F .f32 := pow2 (exponentOf x0)

/-- The codes of the activations `x1`. -/
def codesOf (x0 : Vec F S16 .f32) (x1 : Vec F S1536x1536 .bf16) : Vec F S1536x1536 .fp8e4m3 := k0_pay3 (exponentOf x0) x1

/-- The scale, in a buffer of one number. -/
def scalesOf (x0 : Vec F S16 .f32) : Vec F S1 .f32 := fun _ => scaleOf x0

/-- The record of maxima: the new one, then the first 15 of the old record. -/
def histOf (x0 : Vec F S16 .f32) (x1 : Vec F S1536x1536 .bf16) : Vec F S16 .f32 := fun y =>
  if (y 0).val = 0 then k0_pay4 x1 else wordAt x0 ((y 0).val - 1) (by have : (y 0).val < 16 := (y 0).isLt; omega)

/-- A store of the new maximum at word 0 of the record. -/
theorem hist_first (x0 : Vec F S16 .f32) (x1 : Vec F S1536x1536 .bf16) {w : Vec F S1536x1536 .bf16} (hw : w = x1) (inb) (x : (⟨1, S1.size⟩ : Shape).Idx) :
    k0_pay4 w = histOf x0 x1 ((Rect.unit (s := S16) ![0] S1.size inb).emb x) := by
  subst hw
  have hx : (x 0).val < 1 := (x 0).isLt
  unfold histOf
  have e : ((((Rect.unit (s := S16) ![0] S1.size inb).emb x) 0 : Fin _) : ℕ) = 0 := by
    show 0 + 1 * (x 0).val = _
    omega
  rw [if_pos e]

/-- A store of the old record's word `j` at word `j + 1` of the record. -/
theorem hist_next (x0 : Vec F S16 .f32) (x1 : Vec F S1536x1536 .bf16) (j o : ℕ) (h : j < 16) (ho : o = j + 1) {w : F .f32} (hw : w = wordAt x0 j h)
    (inb) (x : (⟨1, S1.size⟩ : Shape).Idx) :
    w = histOf x0 x1 ((Rect.unit (s := S16) ![o] S1.size inb).emb x) := by
  subst hw ho
  have hx : (x 0).val < 1 := (x 0).isLt
  unfold histOf
  have e : ((((Rect.unit (s := S16) ![j + 1] S1.size inb).emb x) 0 : Fin _) : ℕ) = j + 1 := by
    show j + 1 + 1 * (x 0).val = _
    omega
  rw [if_neg (by rw [e]; omega)]
  congr 1
  rw [e]; omega

/-- A block of the product, from codes `q`. -/
def yOf (x0 : Vec F S16 .f32) (q : Vec F S1536x1536 .fp8e4m3) (x2 : Vec F S1280x768 .i8) (x3 : Vec F S48x1280 .i32) (x4 : Vec F S1x1280 .f32) :
    Vec F S1536x1280 .bf16 := k0_pay1 (scaleOf x0) (k0_pay1474 q) (wOf x2 x3) x4

end Cert.KernelIdeal.Gen
end
-- ==== Proof.RunA.lean ====
module

public import proofs.«01_k».proof.Proof.Outs

@[expose] public section

set_option maxRecDepth 100000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 10752000 in
/-- The body at the grid's first point (where it also writes the codes, the scale and the record): from the inputs' buffers it leaves the
    block of the product, the codes, the scale and the record of maxima in the outputs' buffers. -/
theorem kernelRun0_A (c : Dev nD) (i : grid0.Coords) (arg1 : Memref sig .tc .smem S16 .f32) (harg1 : arg1.IsWhole) (arg2 : Memref sig .tc .vmem S1536x1536 .bf16) (harg2 : arg2.IsWhole) (arg3 : Memref sig .tc .vmem S1280x768 .i8) (harg3 : arg3.IsWhole) (arg4 : Memref sig .tc .vmem S48x1280 .i32) (harg4 : arg4.IsWhole) (arg5 : Memref sig .tc .vmem S1x1280 .f32) (harg5 : arg5.IsWhole) (arg6 : Memref sig .tc .vmem S1536x1280 .bf16) (harg6 : arg6.IsWhole) (arg7 : Memref sig .tc .vmem S1536x1536 .fp8e4m3) (harg7 : arg7.IsWhole) (arg8 : Memref sig .tc .smem S1 .f32) (harg8 : arg8.IsWhole) (arg9 : Memref sig .tc .smem S16 .f32) (harg9 : arg9.IsWhole) (arg10 : Memref sig .tc .vmem S1536x1280 .fp8e4m3) (harg10 : arg10.IsWhole) (hc0 : cond0_0 i)
    (x0 : Vec F S16 .f32) (x1 : Vec F S1536x1536 .bf16) (x2 : Vec F S1280x768 .i8) (x3 : Vec F S48x1280 .i32) (x4 : Vec F S1x1280 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (yOf x0 (codesOf x0 x1) x2 x3 x4) ∗ owns (c : Thread nD τ) arg7 fullShare (codesOf x0 x1) ∗ owns (c : Thread nD τ) arg8 fullShare (scalesOf x0) ∗ owns (c : Thread nD τ) arg9 fullShare (histOf x0 x1) ∗ (∃ d, owns (c : Thread nD τ) arg10 fullShare d)) -∗ K ⟨⟩))
          ⊢ wp frame (wpE (defs₀ (F := F)) Variants.none c none) E (cc0_sparse24_linear i arg1 harg1 arg2 harg2 arg3 harg3 arg4 harg4 arg5 harg5 arg6 harg6 arg7 harg7 arg8 harg8 arg9 harg9 arg10 harg10) K := by
    intro E K
    simp only [cc0_sparse24_linear_eq_skeleton]; unfold cc0_sparse24_linear_skel
    simp only [k0_part318_eq_skeleton, k0_part2_eq_skeleton, k0_part3_eq_skeleton, k0_part4_eq_skeleton, k0_part1_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part319_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part320_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part321_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part322_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, Hk⟩
    subst hf0 hf1 hf2 hf3 hf4
    sl_exec (disch := first | sl_exact hc0)
    sl_step
    have hpieces : View.PiecesOf (wOf (View.read (Elt F) arg3.view f2) (View.read (Elt F) arg4.view f3)) (kernelRun0_A.sl.HS0_480 c arg3 arg4 f2 f3) := by
      unfold kernelRun0_A.sl.HS0_480
      simp only [View.PiecesOf]
      iterate 480
        refine ⟨?_, ?_⟩
        · refine piece_eq (F := F) _ ?h0 ?h1 ?hw
          case h0 => rfl
          case h1 => rfl
          case hw =>
            intro s r hs hr
            simp only [Nat.reduceDiv] at hs hr
            subst hs hr
            intro i2 i3 hs
            rfl
      trivial
    have hcover : ∀ y : S1536x1280.Idx, ∃ p ∈ kernelRun0_A.sl.HS0_480 c arg3 arg4 f2 f3, y ∈ p.1.set :=
      View.cover_of_tiledL _ ![32, 128] (by sl_kernel_rfl)
    have hW : kernelRun0_A.sl.v13112 c arg3 arg4 arg10 f2 f3 = wOf (View.read (Elt F) arg3.view f2) (View.read (Elt F) arg4.view f3) := by
      unfold kernelRun0_A.sl.v13112
      rw [View.readCov_eq_canon']
      funext j
      have hj : (Rect.unit (s := S1536x1280) ![0, 0] S1536x1280.size inb_S1536x1280_S1536x1280_0_0).toLoadRect.idx j = j := by
        funext a
        match a with
        | 0 => exact Fin.ext (by show 0 + 1 * (j 0).val = _; omega)
        | 1 => exact Fin.ext (by show 0 + 1 * (j 1).val = _; omega)
      rw [hj]
      exact View.canon_apply_of_pieces _ _ hpieces.mem _ (hcover _)
    have hA : kernelRun0_A.sl.r_16 c arg1 f0 = amaxOf (View.read (Elt F) arg1.view f0) := by
      unfold kernelRun0_A.sl.r_16 amaxOf
      congr 1
      · exact load_word _ _ 0 (by decide) _ _
      · exact load_word _ _ 1 (by decide) _ _
      · exact load_word _ _ 2 (by decide) _ _
      · exact load_word _ _ 3 (by decide) _ _
      · exact load_word _ _ 4 (by decide) _ _
      · exact load_word _ _ 5 (by decide) _ _
      · exact load_word _ _ 6 (by decide) _ _
      · exact load_word _ _ 7 (by decide) _ _
      · exact load_word _ _ 8 (by decide) _ _
      · exact load_word _ _ 9 (by decide) _ _
      · exact load_word _ _ 10 (by decide) _ _
      · exact load_word _ _ 11 (by decide) _ _
      · exact load_word _ _ 12 (by decide) _ _
      · exact load_word _ _ 13 (by decide) _ _
      · exact load_word _ _ 14 (by decide) _ _
      · exact load_word _ _ 15 (by decide) _ _
    have h0 : kernelRun0_A.sl.v39 c arg1 f0 = step (Scalar.absf (kernelRun0_A.sl.r_16 c arg1 f0)) 128#32 1#32 0#32 := rfl
    have h1 : kernelRun0_A.sl.v47 c arg1 f0 = step (Scalar.absf (kernelRun0_A.sl.r_16 c arg1 f0)) 64#32 4294967233#32 (kernelRun0_A.sl.v39 c arg1 f0) := rfl
    have h2 : kernelRun0_A.sl.v55 c arg1 f0 = step (Scalar.absf (kernelRun0_A.sl.r_16 c arg1 f0)) 32#32 4294967201#32 (kernelRun0_A.sl.v47 c arg1 f0) := rfl
    have h3 : kernelRun0_A.sl.v63 c arg1 f0 = step (Scalar.absf (kernelRun0_A.sl.r_16 c arg1 f0)) 16#32 4294967185#32 (kernelRun0_A.sl.v55 c arg1 f0) := rfl
    have h4 : kernelRun0_A.sl.v71 c arg1 f0 = step (Scalar.absf (kernelRun0_A.sl.r_16 c arg1 f0)) 8#32 4294967177#32 (kernelRun0_A.sl.v63 c arg1 f0) := rfl
    have h5 : kernelRun0_A.sl.v79 c arg1 f0 = step (Scalar.absf (kernelRun0_A.sl.r_16 c arg1 f0)) 4#32 4294967173#32 (kernelRun0_A.sl.v71 c arg1 f0) := rfl
    have h6 : kernelRun0_A.sl.v87 c arg1 f0 = step (Scalar.absf (kernelRun0_A.sl.r_16 c arg1 f0)) 2#32 4294967171#32 (kernelRun0_A.sl.v79 c arg1 f0) := rfl
    have h7 : kernelRun0_A.sl.v95 c arg1 f0 = step (Scalar.absf (kernelRun0_A.sl.r_16 c arg1 f0)) 1#32 4294967170#32 (kernelRun0_A.sl.v87 c arg1 f0) := rfl
    have hS : kernelRun0_A.sl.r_35 c arg1 f0 = scaleOf (View.read (Elt F) arg1.view f0) := by
      have h : kernelRun0_A.sl.r_35 c arg1 f0 = pow2 (expOf (step (Scalar.absf (kernelRun0_A.sl.r_16 c arg1 f0)) 1#32 4294967170#32 (step (Scalar.absf (kernelRun0_A.sl.r_16 c arg1 f0)) 2#32 4294967171#32 (step (Scalar.absf (kernelRun0_A.sl.r_16 c arg1 f0)) 4#32 4294967173#32 (kernelRun0_A.sl.v71 c arg1 f0))))) := rfl
      rw [h, h4, h3, h2, h1, h0, hA]
      rfl
    have hE : kernelRun0_A.sl.v100 c arg1 f0 = exponentOf (View.read (Elt F) arg1.view f0) := by
      have h : kernelRun0_A.sl.v100 c arg1 f0 = expOf (kernelRun0_A.sl.v95 c arg1 f0) := rfl
      rw [h, h7, h6, h5, h4, h3, h2, h1, h0, hA]
      rfl
    have hH6 : kernelRun0_A.sl.H6_1 c arg1 arg2 f0 f1
        = [⟨Rect.unit (s := S1536x1536) ![0, 0] ![1536, 1536] inb_S1536x1536_S1536x1536_0_0, codesOf (View.read (Elt F) arg1.view f0) (View.read (Elt F) arg2.view f1)⟩] := by
      unfold kernelRun0_A.sl.H6_1 codesOf
      rw [hE, View.readAt_eq_ld, View.ld_unit_lit (S := S1536x1536) inb_S1536x1536_S1536x1536_0_0 _ (by decide)]
    have hQ : kernelRun0_A.sl.r_742 c arg1 arg2 arg7 f0 f1
        = k0_pay1474 (codesOf (View.read (Elt F) arg1.view f0) (View.read (Elt F) arg2.view f1)) := by
      unfold kernelRun0_A.sl.r_742 kernelRun0_A.sl.v13110
      rw [hH6]
      generalize codesOf (View.read (Elt F) arg1.view f0) (View.read (Elt F) arg2.view f1) = W
      exact congrArg k0_pay1474 (View.readCov_unit_lit (S := S1536x1536) arg7.view inb_S1536x1536_S1536x1536_0_0 W (by decide))
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr; swap; · iexact H5
      ipureintro
      rw [View.read_writes_eq_canon _ _ _ (View.cover_of_tiled _ ![1536, 1280] (by rfl)), hW, hS, hQ]
      refine (View.canon_cons_unit_lit (S := S1536x1280) inb_S1536x1280_S1536x1280_0_0 _ [] (by decide)).trans ?_
      exact congrArg (fun w => k0_pay1 (scaleOf (View.read (Elt F) arg1.view f0)) (k0_pay1474 (codesOf (View.read (Elt F) arg1.view f0) (View.read (Elt F) arg2.view f1))) (wOf (View.read (Elt F) arg3.view f2) (View.read (Elt F) arg4.view f3)) w)
        (View.ld_unit_lit (S := S1x1280) inb_S1x1280_S1x1280_0_0 (View.read (Elt F) arg5.view f4) (by decide))
    isplitl [H6]
    · iexists _; isplitr; swap; · iexact H6
      ipureintro
      rw [hH6, View.read_writes_eq_canon _ _ _ (View.cover_of_tiled _ ![1536, 1536] (by rfl))]
      exact View.canon_cons_unit_lit (S := S1536x1536) (Val := Elt F) inb_S1536x1536_S1536x1536_0_0 _ [] (by decide)
    isplitl [H7]
    · iexists _; isplitr; swap; · iexact H7
      ipureintro
      rw [View.read_writes_eq_canon _ _ _ (View.cover_of_tiled _ ![1] (by rfl))]
      refine (View.canon_cons_unit_lit (S := S1) inb_S1_S1_0 _ [] (by decide)).trans ?_
      exact funext fun _ => hS
    isplitl [H8]
    · iexists _; isplitr; swap; · iexact H8
      ipureintro
      rw [View.read_writes_eq_canon _ _ _ (View.cover_of_tiledL _ ![1] (by rfl))]
      refine canon_eq_of _ _ ?_ (View.cover_of_tiledL _ ![1] (by rfl))
      simp only [View.PiecesOf]
      refine ⟨hist_next _ _ 14 15 (by decide) rfl (load_word _ _ 14 (by decide) _ _) _, ?_⟩
      refine ⟨hist_next _ _ 13 14 (by decide) rfl (load_word _ _ 13 (by decide) _ _) _, ?_⟩
      refine ⟨hist_next _ _ 12 13 (by decide) rfl (load_word _ _ 12 (by decide) _ _) _, ?_⟩
      refine ⟨hist_next _ _ 11 12 (by decide) rfl (load_word _ _ 11 (by decide) _ _) _, ?_⟩
      refine ⟨hist_next _ _ 10 11 (by decide) rfl (load_word _ _ 10 (by decide) _ _) _, ?_⟩
      refine ⟨hist_next _ _ 9 10 (by decide) rfl (load_word _ _ 9 (by decide) _ _) _, ?_⟩
      refine ⟨hist_next _ _ 8 9 (by decide) rfl (load_word _ _ 8 (by decide) _ _) _, ?_⟩
      refine ⟨hist_next _ _ 7 8 (by decide) rfl (load_word _ _ 7 (by decide) _ _) _, ?_⟩
      refine ⟨hist_next _ _ 6 7 (by decide) rfl (load_word _ _ 6 (by decide) _ _) _, ?_⟩
      refine ⟨hist_next _ _ 5 6 (by decide) rfl (load_word _ _ 5 (by decide) _ _) _, ?_⟩
      refine ⟨hist_next _ _ 4 5 (by decide) rfl (load_word _ _ 4 (by decide) _ _) _, ?_⟩
      refine ⟨hist_next _ _ 3 4 (by decide) rfl (load_word _ _ 3 (by decide) _ _) _, ?_⟩
      refine ⟨hist_next _ _ 2 3 (by decide) rfl (load_word _ _ 2 (by decide) _ _) _, ?_⟩
      refine ⟨hist_next _ _ 1 2 (by decide) rfl (load_word _ _ 1 (by decide) _ _) _, ?_⟩
      refine ⟨hist_next _ _ 0 1 (by decide) rfl (load_word _ _ 0 (by decide) _ _) _, ?_⟩
      exact ⟨hist_first _ _ (View.ld_unit_lit (S := S1536x1536) inb_S1536x1536_S1536x1536_0_0 (View.read (Elt F) arg2.view f1) (by decide)) _, trivial⟩
    iexists _, _; isplitr; swap; · iexact HS0
    ipureintro; rfl

end Cert.KernelIdeal.Gen
end
-- ==== Proof.RunB.lean ====
module

public import proofs.«01_k».proof.Proof.Outs

@[expose] public section

set_option maxRecDepth 100000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 20000000 in
/-- The body at the grid's later points: from the inputs' buffers and the codes written at the first point it leaves the block of the product, and
    leaves the codes, the scale and the record as they were. -/
theorem kernelRun0_B (c : Dev nD) (i : grid0.Coords) (arg1 : Memref sig .tc .smem S16 .f32) (harg1 : arg1.IsWhole) (arg2 : Memref sig .tc .vmem S1536x1536 .bf16) (harg2 : arg2.IsWhole) (arg3 : Memref sig .tc .vmem S1280x768 .i8) (harg3 : arg3.IsWhole) (arg4 : Memref sig .tc .vmem S48x1280 .i32) (harg4 : arg4.IsWhole) (arg5 : Memref sig .tc .vmem S1x1280 .f32) (harg5 : arg5.IsWhole) (arg6 : Memref sig .tc .vmem S1536x1280 .bf16) (harg6 : arg6.IsWhole) (arg7 : Memref sig .tc .vmem S1536x1536 .fp8e4m3) (harg7 : arg7.IsWhole) (arg8 : Memref sig .tc .smem S1 .f32) (harg8 : arg8.IsWhole) (arg9 : Memref sig .tc .smem S16 .f32) (harg9 : arg9.IsWhole) (arg10 : Memref sig .tc .vmem S1536x1280 .fp8e4m3) (harg10 : arg10.IsWhole) (hc0 : ¬cond0_0 i)
    (x0 : Vec F S16 .f32) (x1 : Vec F S1536x1536 .bf16) (x2 : Vec F S1280x768 .i8) (x3 : Vec F S48x1280 .i32) (x4 : Vec F S1x1280 .f32) (x6 : Vec F S1536x1536 .fp8e4m3) (x7 : Vec F S1 .f32) (x8 : Vec F S16 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare x6 ∗ owns (c : Thread nD τ) arg8 fullShare x7 ∗ owns (c : Thread nD τ) arg9 fullShare x8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (yOf x0 x6 x2 x3 x4) ∗ owns (c : Thread nD τ) arg7 fullShare x6 ∗ owns (c : Thread nD τ) arg8 fullShare x7 ∗ owns (c : Thread nD τ) arg9 fullShare x8 ∗ (∃ d, owns (c : Thread nD τ) arg10 fullShare d)) -∗ K ⟨⟩))
          ⊢ wp frame (wpE (defs₀ (F := F)) Variants.none c none) E (cc0_sparse24_linear i arg1 harg1 arg2 harg2 arg3 harg3 arg4 harg4 arg5 harg5 arg6 harg6 arg7 harg7 arg8 harg8 arg9 harg9 arg10 harg10) K := by
    intro E K
    simp only [cc0_sparse24_linear_eq_skeleton]; unfold cc0_sparse24_linear_skel
    simp only [k0_part318_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part319_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part320_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part321_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part322_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%ds0, %fs0, -, HS0⟩, Hk⟩
    subst hf0 hf1 hf2 hf3 hf4 hf6 hf7 hf8
    sl_exec (disch := first | sl_exact hc0)
    sl_step
    have hpieces : View.PiecesOf (wOf (View.read (Elt F) arg3.view f2) (View.read (Elt F) arg4.view f3)) (kernelRun0_B.sl.HS0_480 c arg3 arg4 f2 f3) := by
      unfold kernelRun0_B.sl.HS0_480
      simp only [View.PiecesOf]
      iterate 480
        refine ⟨?_, ?_⟩
        · refine piece_eq (F := F) _ ?h0 ?h1 ?hw
          case h0 => rfl
          case h1 => rfl
          case hw =>
            intro s r hs hr
            simp only [Nat.reduceDiv] at hs hr
            subst hs hr
            intro i2 i3 hs
            rfl
      trivial
    have hcover : ∀ y : S1536x1280.Idx, ∃ p ∈ kernelRun0_B.sl.HS0_480 c arg3 arg4 f2 f3, y ∈ p.1.set :=
      View.cover_of_tiledL _ ![32, 128] (by sl_kernel_rfl)
    have hW : kernelRun0_B.sl.v13112 c arg3 arg4 arg10 f2 f3 = wOf (View.read (Elt F) arg3.view f2) (View.read (Elt F) arg4.view f3) := by
      unfold kernelRun0_B.sl.v13112
      rw [View.readCov_eq_canon']
      funext j
      have hj : (Rect.unit (s := S1536x1280) ![0, 0] S1536x1280.size inb_S1536x1280_S1536x1280_0_0).toLoadRect.idx j = j := by
        funext a
        match a with
        | 0 => exact Fin.ext (by show 0 + 1 * (j 0).val = _; omega)
        | 1 => exact Fin.ext (by show 0 + 1 * (j 1).val = _; omega)
      rw [hj]
      exact View.canon_apply_of_pieces _ _ hpieces.mem _ (hcover _)
    have hA : kernelRun0_B.sl.r_16 c arg1 f0 = amaxOf (View.read (Elt F) arg1.view f0) := by
      unfold kernelRun0_B.sl.r_16 amaxOf
      congr 1
      · exact load_word _ _ 0 (by decide) _ _
      · exact load_word _ _ 1 (by decide) _ _
      · exact load_word _ _ 2 (by decide) _ _
      · exact load_word _ _ 3 (by decide) _ _
      · exact load_word _ _ 4 (by decide) _ _
      · exact load_word _ _ 5 (by decide) _ _
      · exact load_word _ _ 6 (by decide) _ _
      · exact load_word _ _ 7 (by decide) _ _
      · exact load_word _ _ 8 (by decide) _ _
      · exact load_word _ _ 9 (by decide) _ _
      · exact load_word _ _ 10 (by decide) _ _
      · exact load_word _ _ 11 (by decide) _ _
      · exact load_word _ _ 12 (by decide) _ _
      · exact load_word _ _ 13 (by decide) _ _
      · exact load_word _ _ 14 (by decide) _ _
      · exact load_word _ _ 15 (by decide) _ _
    have h0 : kernelRun0_B.sl.v39 c arg1 f0 = step (Scalar.absf (kernelRun0_B.sl.r_16 c arg1 f0)) 128#32 1#32 0#32 := rfl
    have h1 : kernelRun0_B.sl.v47 c arg1 f0 = step (Scalar.absf (kernelRun0_B.sl.r_16 c arg1 f0)) 64#32 4294967233#32 (kernelRun0_B.sl.v39 c arg1 f0) := rfl
    have h2 : kernelRun0_B.sl.v55 c arg1 f0 = step (Scalar.absf (kernelRun0_B.sl.r_16 c arg1 f0)) 32#32 4294967201#32 (kernelRun0_B.sl.v47 c arg1 f0) := rfl
    have h3 : kernelRun0_B.sl.v63 c arg1 f0 = step (Scalar.absf (kernelRun0_B.sl.r_16 c arg1 f0)) 16#32 4294967185#32 (kernelRun0_B.sl.v55 c arg1 f0) := rfl
    have h4 : kernelRun0_B.sl.v71 c arg1 f0 = step (Scalar.absf (kernelRun0_B.sl.r_16 c arg1 f0)) 8#32 4294967177#32 (kernelRun0_B.sl.v63 c arg1 f0) := rfl
    have hS : kernelRun0_B.sl.r_18 c arg1 f0 = scaleOf (View.read (Elt F) arg1.view f0) := by
      have h : kernelRun0_B.sl.r_18 c arg1 f0 = pow2 (expOf (step (Scalar.absf (kernelRun0_B.sl.r_16 c arg1 f0)) 1#32 4294967170#32 (step (Scalar.absf (kernelRun0_B.sl.r_16 c arg1 f0)) 2#32 4294967171#32 (step (Scalar.absf (kernelRun0_B.sl.r_16 c arg1 f0)) 4#32 4294967173#32 (kernelRun0_B.sl.v71 c arg1 f0))))) := rfl
      rw [h, h4, h3, h2, h1, h0, hA]
      rfl
    have hQ : kernelRun0_B.sl.r_725 c arg7 f6 = k0_pay1474 (View.read (Elt F) arg7.view f6) :=
      congrArg k0_pay1474 (View.ld_unit_lit (S := S1536x1536) inb_S1536x1536_S1536x1536_0_0 (View.read (Elt F) arg7.view f6) (by decide))
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr; swap; · iexact H5
      ipureintro
      rw [View.read_writes_eq_canon _ _ _ (View.cover_of_tiled _ ![1536, 1280] (by rfl)), hW, hS, hQ]
      refine (View.canon_cons_unit_lit (S := S1536x1280) inb_S1536x1280_S1536x1280_0_0 _ [] (by decide)).trans ?_
      exact congrArg (fun w => k0_pay1 (scaleOf (View.read (Elt F) arg1.view f0)) (k0_pay1474 (View.read (Elt F) arg7.view f6)) (wOf (View.read (Elt F) arg3.view f2) (View.read (Elt F) arg4.view f3)) w)
        (View.ld_unit_lit (S := S1x1280) inb_S1x1280_S1x1280_0_0 (View.read (Elt F) arg5.view f4) (by decide))
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    iexists _, _; isplitr; swap; · iexact HS0
    ipureintro; rfl

end Cert.KernelIdeal.Gen
end
-- ==== Proof.Run.lean ====
module

public import proofs.«01_k».proof.Proof.RunA
public import proofs.«01_k».proof.Proof.RunB
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The grid's first point. -/
def first : Fin cfg0.N := ⟨0, by rw [show cfg0.N = 7 from N_0]; decide⟩

/-- The codes, the scale and the record of maxima, which the first point writes. -/
def codes (c : Dev nD) : Vec F S1536x1536 .fp8e4m3 := codesOf (iblk m c 0 first) (iblk m c 1 first)
/-- The scale. -/
def scales (c : Dev nD) : Vec F S1 .f32 := scalesOf (iblk m c 0 first)
/-- The record of maxima. -/
def hist (c : Dev nD) : Vec F S16 .f32 := histOf (iblk m c 0 first) (iblk m c 1 first)

/-- The proof data of the pipeline on core `c`: the arrays as the region finds them; after the body at point `t` each input's buffer at its block,
    the product's at its block, and the codes', the scale's and the record's at what the first point wrote. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yOf (iblk m c 0 t) (codes m c) (iblk m c 2 t) (iblk m c 3 t) (iblk m c 4 t)
    | ⟨6, _⟩ => codes m c
    | ⟨7, _⟩ => scales m c
    | ⟨8, _⟩ => hist m c
  Φ _ := Pipeline.ΦA spec0 c
  q _ := fullShare
  owed _ := 0

/-- The proof data's arrays are what the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
/-- What the staging buffer of the activations holds after point `t`. -/
theorem after0_1 (c : Dev nD) (t : Fin cfg0.N) : (dats m 0 c).after 1 t = iblk m c 1 t := by dsimp only [dats]
/-- What the staging buffer of the value bytes holds after point `t`. -/
theorem after0_2 (c : Dev nD) (t : Fin cfg0.N) : (dats m 0 c).after 2 t = iblk m c 2 t := by dsimp only [dats]
/-- What the staging buffer of the index words holds after point `t`. -/
theorem after0_3 (c : Dev nD) (t : Fin cfg0.N) : (dats m 0 c).after 3 t = iblk m c 3 t := by dsimp only [dats]
/-- What the staging buffer of the weight scales holds after point `t`. -/
theorem after0_4 (c : Dev nD) (t : Fin cfg0.N) : (dats m 0 c).after 4 t = iblk m c 4 t := by dsimp only [dats]
/-- What the staging buffer of the product holds after point `t`. -/
theorem after0_5 (c : Dev nD) (t : Fin cfg0.N) : (dats m 0 c).after 5 t = yOf (iblk m c 0 t) (codes m c) (iblk m c 2 t) (iblk m c 3 t) (iblk m c 4 t) := by dsimp only [dats]
/-- What the staging buffer of the codes holds after point `t`. -/
theorem after0_6 (c : Dev nD) (t : Fin cfg0.N) : (dats m 0 c).after 6 t = codes m c := by dsimp only [dats]
/-- What the staging buffer of the scale holds after point `t`. -/
theorem after0_7 (c : Dev nD) (t : Fin cfg0.N) : (dats m 0 c).after 7 t = scales m c := by dsimp only [dats]
/-- What the staging buffer of the new record of maxima holds after point `t`. -/
theorem after0_8 (c : Dev nD) (t : Fin cfg0.N) : (dats m 0 c).after 8 t = hist m c := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
/-- What the staging buffer of the activations holds before point `t`. -/
theorem before0_1 (c : Dev nD) (t : Fin cfg0.N) (d) : (dats m 0 c).before 1 t d = iblk m c 1 t :=
  before0_1_of m (dats m 0 c) (A_eq m c 1) (after0_1 m c) t d
/-- What the staging buffer of the value bytes holds before point `t`. -/
theorem before0_2 (c : Dev nD) (t : Fin cfg0.N) (d) : (dats m 0 c).before 2 t d = iblk m c 2 t :=
  before0_2_of m (dats m 0 c) (A_eq m c 2) (after0_2 m c) t d
/-- What the staging buffer of the index words holds before point `t`. -/
theorem before0_3 (c : Dev nD) (t : Fin cfg0.N) (d) : (dats m 0 c).before 3 t d = iblk m c 3 t :=
  before0_3_of m (dats m 0 c) (A_eq m c 3) (after0_3 m c) t d
/-- What the staging buffer of the weight scales holds before point `t`. -/
theorem before0_4 (c : Dev nD) (t : Fin cfg0.N) (d) : (dats m 0 c).before 4 t d = iblk m c 4 t :=
  before0_4_of m (dats m 0 c) (A_eq m c 4) (after0_4 m c) t d

/-- The body writes output 6 at the first point, -/
theorem live0_6 (t : Fin cfg0.N) (ht : t.val = 0) : cfg0.idle 6 (grid0.coords t) = false := by
  have h : k0_cond1 (grid0.coords t) = 1#1 := (hcond0_0 t).mpr (by rw [ht])
  show (!(k0_cond1 (grid0.coords t) == 1#1)) = false
  rw [h]; rfl
/-- and not at the others. -/
theorem idle0_6 (t : Fin cfg0.N) (ht : t.val ≠ 0) : cfg0.idle 6 (grid0.coords t) = true := by
  have hN : t.val < 7 := lt_of_lt_of_eq t.isLt (show cfg0.N = 7 from N_0)
  have h : ¬ k0_cond1 (grid0.coords t) = 1#1 := fun h => ht (by have := (hcond0_0 t).mp h; omega)
  show (!(k0_cond1 (grid0.coords t) == 1#1)) = true
  rw [beq_eq_false_iff_ne.mpr h]; rfl
/-- At a point after the first, output 6's buffer holds what the first point wrote there. -/
theorem before0_6 (c : Dev nD) : ∀ (n : ℕ) (t : Fin cfg0.N), t.val = n + 1 → ∀ d, (dats m 0 c).before 6 t d = codes m c := by
  intro n
  induction n with
  | zero =>
    intro t ht d
    have hN : t.val < 7 := lt_of_lt_of_eq t.isLt (show cfg0.N = 7 from N_0)
    rw [Dat.before_of_pos _ 6 t (by omega) rfl]
    have hf : (cfg0.win 6).flush ⟨t.val - 1, Nat.lt_of_le_of_lt (Nat.sub_le _ _) t.isLt⟩ = false := by
      rw [Bool.eq_false_iff, Ne, flush0_6]
      show ¬ (t.val - 1) % 7 = 6
      omega
    rw [hf, if_neg Bool.false_ne_true]
    unfold Dat.left
    rw [live0_6 ⟨t.val - 1, _⟩ (by show t.val - 1 = 0; omega)]
    exact after0_6 m c _
  | succ n ih =>
    intro t ht d
    have hN : t.val < 7 := lt_of_lt_of_eq t.isLt (show cfg0.N = 7 from N_0)
    rw [Dat.before_of_pos _ 6 t (by omega) rfl]
    have hf : (cfg0.win 6).flush ⟨t.val - 1, Nat.lt_of_le_of_lt (Nat.sub_le _ _) t.isLt⟩ = false := by
      rw [Bool.eq_false_iff, Ne, flush0_6]
      show ¬ (t.val - 1) % 7 = 6
      omega
    rw [hf, if_neg Bool.false_ne_true]
    unfold Dat.left
    rw [idle0_6 ⟨t.val - 1, _⟩ (by show t.val - 1 ≠ 0; omega)]
    exact ih _ (by show t.val - 1 = _; omega) d

/-- The body writes output 7 at the first point, -/
theorem live0_7 (t : Fin cfg0.N) (ht : t.val = 0) : cfg0.idle 7 (grid0.coords t) = false := by
  have h : k0_cond1 (grid0.coords t) = 1#1 := (hcond0_0 t).mpr (by rw [ht])
  show (!(k0_cond1 (grid0.coords t) == 1#1)) = false
  rw [h]; rfl
/-- and not at the others. -/
theorem idle0_7 (t : Fin cfg0.N) (ht : t.val ≠ 0) : cfg0.idle 7 (grid0.coords t) = true := by
  have hN : t.val < 7 := lt_of_lt_of_eq t.isLt (show cfg0.N = 7 from N_0)
  have h : ¬ k0_cond1 (grid0.coords t) = 1#1 := fun h => ht (by have := (hcond0_0 t).mp h; omega)
  show (!(k0_cond1 (grid0.coords t) == 1#1)) = true
  rw [beq_eq_false_iff_ne.mpr h]; rfl
/-- At a point after the first, output 7's buffer holds what the first point wrote there. -/
theorem before0_7 (c : Dev nD) : ∀ (n : ℕ) (t : Fin cfg0.N), t.val = n + 1 → ∀ d, (dats m 0 c).before 7 t d = scales m c := by
  intro n
  induction n with
  | zero =>
    intro t ht d
    have hN : t.val < 7 := lt_of_lt_of_eq t.isLt (show cfg0.N = 7 from N_0)
    rw [Dat.before_of_pos _ 7 t (by omega) rfl]
    have hf : (cfg0.win 7).flush ⟨t.val - 1, Nat.lt_of_le_of_lt (Nat.sub_le _ _) t.isLt⟩ = false := by
      rw [Bool.eq_false_iff, Ne, flush0_7]
      show ¬ (t.val - 1) % 7 = 6
      omega
    rw [hf, if_neg Bool.false_ne_true]
    unfold Dat.left
    rw [live0_7 ⟨t.val - 1, _⟩ (by show t.val - 1 = 0; omega)]
    exact after0_7 m c _
  | succ n ih =>
    intro t ht d
    have hN : t.val < 7 := lt_of_lt_of_eq t.isLt (show cfg0.N = 7 from N_0)
    rw [Dat.before_of_pos _ 7 t (by omega) rfl]
    have hf : (cfg0.win 7).flush ⟨t.val - 1, Nat.lt_of_le_of_lt (Nat.sub_le _ _) t.isLt⟩ = false := by
      rw [Bool.eq_false_iff, Ne, flush0_7]
      show ¬ (t.val - 1) % 7 = 6
      omega
    rw [hf, if_neg Bool.false_ne_true]
    unfold Dat.left
    rw [idle0_7 ⟨t.val - 1, _⟩ (by show t.val - 1 ≠ 0; omega)]
    exact ih _ (by show t.val - 1 = _; omega) d

/-- The body writes output 8 at the first point, -/
theorem live0_8 (t : Fin cfg0.N) (ht : t.val = 0) : cfg0.idle 8 (grid0.coords t) = false := by
  have h : k0_cond1 (grid0.coords t) = 1#1 := (hcond0_0 t).mpr (by rw [ht])
  show (!(k0_cond1 (grid0.coords t) == 1#1)) = false
  rw [h]; rfl
/-- and not at the others. -/
theorem idle0_8 (t : Fin cfg0.N) (ht : t.val ≠ 0) : cfg0.idle 8 (grid0.coords t) = true := by
  have hN : t.val < 7 := lt_of_lt_of_eq t.isLt (show cfg0.N = 7 from N_0)
  have h : ¬ k0_cond1 (grid0.coords t) = 1#1 := fun h => ht (by have := (hcond0_0 t).mp h; omega)
  show (!(k0_cond1 (grid0.coords t) == 1#1)) = true
  rw [beq_eq_false_iff_ne.mpr h]; rfl
/-- At a point after the first, output 8's buffer holds what the first point wrote there. -/
theorem before0_8 (c : Dev nD) : ∀ (n : ℕ) (t : Fin cfg0.N), t.val = n + 1 → ∀ d, (dats m 0 c).before 8 t d = hist m c := by
  intro n
  induction n with
  | zero =>
    intro t ht d
    have hN : t.val < 7 := lt_of_lt_of_eq t.isLt (show cfg0.N = 7 from N_0)
    rw [Dat.before_of_pos _ 8 t (by omega) rfl]
    have hf : (cfg0.win 8).flush ⟨t.val - 1, Nat.lt_of_le_of_lt (Nat.sub_le _ _) t.isLt⟩ = false := by
      rw [Bool.eq_false_iff, Ne, flush0_8]
      show ¬ (t.val - 1) % 7 = 6
      omega
    rw [hf, if_neg Bool.false_ne_true]
    unfold Dat.left
    rw [live0_8 ⟨t.val - 1, _⟩ (by show t.val - 1 = 0; omega)]
    exact after0_8 m c _
  | succ n ih =>
    intro t ht d
    have hN : t.val < 7 := lt_of_lt_of_eq t.isLt (show cfg0.N = 7 from N_0)
    rw [Dat.before_of_pos _ 8 t (by omega) rfl]
    have hf : (cfg0.win 8).flush ⟨t.val - 1, Nat.lt_of_le_of_lt (Nat.sub_le _ _) t.isLt⟩ = false := by
      rw [Bool.eq_false_iff, Ne, flush0_8]
      show ¬ (t.val - 1) % 7 = 6
      omega
    rw [hf, if_neg Bool.false_ne_true]
    unfold Dat.left
    rw [idle0_8 ⟨t.val - 1, _⟩ (by show t.val - 1 ≠ 0; omega)]
    exact ih _ (by show t.val - 1 = _; omega) d

/-- An input's buffer is left at its block. -/
theorem leaves0_0 (c : Dev nD) (t : Fin cfg0.N) : (dats m 0 c).leavesExact 0 t = owns (c : Thread nD τ) (st0_0 t) fullShare ((dats m 0 c).after 0 t) := by
  unfold Dat.leavesExact; rw [show cfg0.idle 0 (cfg0.grid.coords t) = false from rfl]
/-- What the body leaves in the staging buffer of the activations at point `t`. -/
theorem leaves0_1 (c : Dev nD) (t : Fin cfg0.N) : (dats m 0 c).leavesExact 1 t = owns (c : Thread nD τ) (st0_1 t) fullShare ((dats m 0 c).after 1 t) := by
  unfold Dat.leavesExact; rw [show cfg0.idle 1 (cfg0.grid.coords t) = false from rfl]
/-- What the body leaves in the staging buffer of the value bytes at point `t`. -/
theorem leaves0_2 (c : Dev nD) (t : Fin cfg0.N) : (dats m 0 c).leavesExact 2 t = owns (c : Thread nD τ) (st0_2 t) fullShare ((dats m 0 c).after 2 t) := by
  unfold Dat.leavesExact; rw [show cfg0.idle 2 (cfg0.grid.coords t) = false from rfl]
/-- What the body leaves in the staging buffer of the index words at point `t`. -/
theorem leaves0_3 (c : Dev nD) (t : Fin cfg0.N) : (dats m 0 c).leavesExact 3 t = owns (c : Thread nD τ) (st0_3 t) fullShare ((dats m 0 c).after 3 t) := by
  unfold Dat.leavesExact; rw [show cfg0.idle 3 (cfg0.grid.coords t) = false from rfl]
/-- What the body leaves in the staging buffer of the weight scales at point `t`. -/
theorem leaves0_4 (c : Dev nD) (t : Fin cfg0.N) : (dats m 0 c).leavesExact 4 t = owns (c : Thread nD τ) (st0_4 t) fullShare ((dats m 0 c).after 4 t) := by
  unfold Dat.leavesExact; rw [show cfg0.idle 4 (cfg0.grid.coords t) = false from rfl]
/-- What the body leaves in the staging buffer of the product at point `t`. -/
theorem leaves0_5 (c : Dev nD) (t : Fin cfg0.N) : (dats m 0 c).leavesExact 5 t = owns (c : Thread nD τ) (st0_5 t) fullShare ((dats m 0 c).after 5 t) := by
  unfold Dat.leavesExact; rw [show cfg0.idle 5 (cfg0.grid.coords t) = false from rfl]

/-- Output 6's buffer is left holding what the first point writes there. -/
theorem leaves0_6 (c : Dev nD) (t : Fin cfg0.N) : owns (c : Thread nD τ) (st0_6 t) fullShare (codes m c) ⊢ (dats m 0 c).leavesExact 6 t := by
  unfold Dat.leavesExact
  by_cases ht : t.val = 0
  · rw [show cfg0.idle 6 (cfg0.grid.coords t) = false from live0_6 t ht]
    exact .rfl
  · rw [show cfg0.idle 6 (cfg0.grid.coords t) = true from idle0_6 t ht]
    cases h : (cfg0.win 6).flush t
    · have hb := before0_6 m c (t.val - 1) t (by omega)
      iintro H
      iexists (codes m c)
      rw [hb]
      iexact H
    · exact .rfl

/-- Output 7's buffer is left holding what the first point writes there. -/
theorem leaves0_7 (c : Dev nD) (t : Fin cfg0.N) : owns (c : Thread nD τ) (st0_7 t) fullShare (scales m c) ⊢ (dats m 0 c).leavesExact 7 t := by
  unfold Dat.leavesExact
  by_cases ht : t.val = 0
  · rw [show cfg0.idle 7 (cfg0.grid.coords t) = false from live0_7 t ht]
    exact .rfl
  · rw [show cfg0.idle 7 (cfg0.grid.coords t) = true from idle0_7 t ht]
    cases h : (cfg0.win 7).flush t
    · have hb := before0_7 m c (t.val - 1) t (by omega)
      iintro H
      iexists (scales m c)
      rw [hb]
      iexact H
    · exact .rfl

/-- Output 8's buffer is left holding what the first point writes there. -/
theorem leaves0_8 (c : Dev nD) (t : Fin cfg0.N) : owns (c : Thread nD τ) (st0_8 t) fullShare (hist m c) ⊢ (dats m 0 c).leavesExact 8 t := by
  unfold Dat.leavesExact
  by_cases ht : t.val = 0
  · rw [show cfg0.idle 8 (cfg0.grid.coords t) = false from live0_8 t ht]
    exact .rfl
  · rw [show cfg0.idle 8 (cfg0.grid.coords t) = true from idle0_8 t ht]
    cases h : (cfg0.win 8).flush t
    · have hb := before0_8 m c (t.val - 1) t (by omega)
      iintro H
      iexists (hist m c)
      rw [hb]
      iexact H
    · exact .rfl

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 1600000 in
/-- The body at any point: at the first it writes the codes, the scale and the record; at the others it finds them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    leaves0_0, after0_0, leaves0_1, after0_1, leaves0_2, after0_2, leaves0_3, after0_3, leaves0_4, after0_4, leaves0_5, after0_5]
  rw [show (dats m 0 c).Φ t.castSucc = Pipeline.ΦA spec0 c from rfl, PhiA0_eq]
  have hN : t.val < 7 := lt_of_lt_of_eq t.isLt (show cfg0.N = 7 from N_0)
  by_cases h0 : t.val = 0
  · obtain rfl : t = first := Fin.ext h0
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords first) _ _ _ _ _ _ _ _ _ _ _ _ _ _ _ _ _ _ _ _ ((hcond0_0 first).mpr (by rw [h0])) (iblk m c 0 first) (iblk m c 1 first) (iblk m c 2 first) (iblk m c 3 first) (iblk m c 4 first)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [HS0]; · iexact HS0
    iintro ⟨H0, H1, H2, H3, H4, H5, H6, H7, H8, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves0_6 m c first); iexact H6
    isplitl [H7]; · iapply (leaves0_7 m c first); iexact H7
    iapply (leaves0_8 m c first); iexact H8
  · simp only [before0_6 m c (t.val - 1) t (by omega), before0_7 m c (t.val - 1) t (by omega), before0_8 m c (t.val - 1) t (by omega)]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ _ _ (fun h => h0 (by have := (hcond0_0 t).mp h; omega)) (iblk m c 0 t) (iblk m c 1 t) (iblk m c 2 t) (iblk m c 3 t) (iblk m c 4 t) (codes m c) (scales m c) (hist m c)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexact H8
    isplitl [HS0]; · iexact HS0
    iintro ⟨H0, H1, H2, H3, H4, H5, H6, H7, H8, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves0_6 m c t); iexact H6
    isplitl [H7]; · iapply (leaves0_7 m c t); iexact H7
    iapply (leaves0_8 m c t); iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: every run of @main from zero counters ends, the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen
end
-- ==== Proof.PrintedBody.lean ====
module

public import proofs.«01_k».proof.Proof.Gen.Kernel.Frame
public import proofs.«01_k».proof.Proof.Gen.Kernel.Skeleton
public import Idealize.ShloMosaic.Lib.Pipeline.ReadBack

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 7 = 0 :=
  (fun t => by
    have ht : t.val < 7 := Nat.lt_of_lt_of_eq t.isLt N_0
    have e0 : (grid0.coords t 0).val = t.val / 1 % 7 := Pipeline.Grid.coords_val t 0 (by decide) rfl
    simp only [cond0_0, k0_cond1, e0]
    word_cmp
   : ∀ t : Fin grid0.N, cond0_0 (grid0.coords t) ↔ t.val % 7 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S16 .f32 := win0_0.stage (cfg0.slots t 0)
/-- The staging buffer of the record of maxima is a whole buffer. -/
abbrev hs0_0 (t : Fin cfg0.N) : (ms0_0 t).IsWhole := hstage0_0 ((cfg0.slots t 0).cast nbuf0_0)
/-- The staging buffer of the activations at point `t`. -/
abbrev ms0_1 (t : Fin cfg0.N) : Memref sig .tc .vmem S1536x1536 .bf16 := win0_1.stage (cfg0.slots t 1)
/-- The staging buffer of the activations is a whole buffer. -/
abbrev hs0_1 (t : Fin cfg0.N) : (ms0_1 t).IsWhole := hstage0_1 ((cfg0.slots t 1).cast nbuf0_1)
/-- The staging buffer of the value bytes at point `t`. -/
abbrev ms0_2 (t : Fin cfg0.N) : Memref sig .tc .vmem S1280x768 .i8 := win0_2.stage (cfg0.slots t 2)
/-- The staging buffer of the value bytes is a whole buffer. -/
abbrev hs0_2 (t : Fin cfg0.N) : (ms0_2 t).IsWhole := hstage0_2 ((cfg0.slots t 2).cast nbuf0_2)
/-- The staging buffer of the index words at point `t`. -/
abbrev ms0_3 (t : Fin cfg0.N) : Memref sig .tc .vmem S48x1280 .i32 := win0_3.stage (cfg0.slots t 3)
/-- The staging buffer of the index words is a whole buffer. -/
abbrev hs0_3 (t : Fin cfg0.N) : (ms0_3 t).IsWhole := hstage0_3 ((cfg0.slots t 3).cast nbuf0_3)
/-- The staging buffer of the weight scales at point `t`. -/
abbrev ms0_4 (t : Fin cfg0.N) : Memref sig .tc .vmem S1x1280 .f32 := win0_4.stage (cfg0.slots t 4)
/-- The staging buffer of the weight scales is a whole buffer. -/
abbrev hs0_4 (t : Fin cfg0.N) : (ms0_4 t).IsWhole := hstage0_4 ((cfg0.slots t 4).cast nbuf0_4)
/-- The staging buffer of the product at point `t`. -/
abbrev ms0_5 (t : Fin cfg0.N) : Memref sig .tc .vmem S1536x1280 .bf16 := win0_5.stage (cfg0.slots t 5)
/-- The staging buffer of the product is a whole buffer. -/
abbrev hs0_5 (t : Fin cfg0.N) : (ms0_5 t).IsWhole := hstage0_5 ((cfg0.slots t 5).cast nbuf0_5)
/-- The staging buffer of the codes at point `t`. -/
abbrev ms0_6 (t : Fin cfg0.N) : Memref sig .tc .vmem S1536x1536 .fp8e4m3 := win0_6.stage (cfg0.slots t 6)
/-- The staging buffer of the codes is a whole buffer. -/
abbrev hs0_6 (t : Fin cfg0.N) : (ms0_6 t).IsWhole := hstage0_6 ((cfg0.slots t 6).cast nbuf0_6)
/-- The staging buffer of the scale at point `t`. -/
abbrev ms0_7 (t : Fin cfg0.N) : Memref sig .tc .smem S1 .f32 := win0_7.stage (cfg0.slots t 7)
/-- The staging buffer of the scale is a whole buffer. -/
abbrev hs0_7 (t : Fin cfg0.N) : (ms0_7 t).IsWhole := hstage0_7 ((cfg0.slots t 7).cast nbuf0_7)
/-- The staging buffer of the new record of maxima at point `t`. -/
abbrev ms0_8 (t : Fin cfg0.N) : Memref sig .tc .smem S16 .f32 := win0_8.stage (cfg0.slots t 8)
/-- The staging buffer of the new record of maxima is a whole buffer. -/
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S1536x1280 .fp8e4m3 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Gen

end
-- ==== Proof.PrintedWeight.lean ====
module

public import proofs.«01_k».proof.Proof.PrintedBody
public import Idealize.ShloMosaic.Lib.ValueIdxCore

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The dense weight block the body decodes

The body fills its scratch of 1536 × 1280 fp8 numbers in tiles of 32 × 128, each from 8 × 128 words of the transposed value bytes
and one row of 128 index words. -/

/-- The tile made of a `384 × 128` block of words `vw`, of its rows from `8·g` on, and of a row `ir` of index words. -/
def tileOf (g : Fin 48) (vw : IVec S384x128 32) (ir : Vec F S1x128 .i32) : FVec F S32x128 .fp8e4m3 :=
  k0_pay26 k0_pay23
    (extractStridedSlice S8x128 ![8 * g.val, 0] vw ⟨rfl, Fin.forall_fin_two.mpr ⟨by have := g.isLt; show 8 * g.val + 8 ≤ 384; omega, Nat.le_refl 128⟩⟩) ir

/-- The tile of row group `g` and column group `n`, of the block's value bytes `x2` and index words `x3`. -/
def tileAt (x2 : Vec F S1280x768 .i8) (x3 : Vec F S48x1280 .i32) (n : Fin 10) (g : Fin 48) : FVec F S32x128 .fp8e4m3 :=
  tileOf g
    (k0_pay24 (View.ld x2 (Rect.unit (s := S1280x768) ![128 * n.val, 0] S128x768.size
      (Fin.forall_fin_two.mpr ⟨by have := n.isLt; show 128 * n.val + 128 ≤ 1280; omega, Nat.le_refl 768⟩))))
    (View.ld x3 (Rect.unit (s := S48x1280) ![g.val, 128 * n.val] S1x128.size
      (Fin.forall_fin_two.mpr ⟨by have := g.isLt; show g.val + 1 ≤ 48; omega, by have := n.isLt; show 128 * n.val + 128 ≤ 1280; omega⟩)))

/-- The dense weight block: at row `k` and column `l` the tile of row group `k / 32` and column group `l / 128`, at `(k % 32, l % 128)`. -/
def wOf (x2 : Vec F S1280x768 .i8) (x3 : Vec F S48x1280 .i32) : Vec F S1536x1280 .fp8e4m3 := fun y =>
  tileAt x2 x3 ⟨(y 1).val / 128, by have : (y 1).val < 1280 := (y 1).isLt; omega⟩ ⟨(y 0).val / 32, by have : (y 0).val < 1536 := (y 0).isLt; omega⟩
    (ValueIdx.ix2 ⟨(y 0).val % 32, Nat.mod_lt _ (by decide)⟩ ⟨(y 1).val % 128, Nat.mod_lt _ (by decide)⟩)

/-- The part of the dense weight block under a tile at row `32·g` and column `128·n` is that tile. -/
theorem wOf_tile (x2 : Vec F S1280x768 .i8) (x3 : Vec F S48x1280 .i32) (o0 o1 : ℕ)
    (inb : ∀ a, (![o0, o1] : Fin 2 → ℕ) a + S32x128.size a ≤ S1536x1280.size a) (h0 : o0 % 32 = 0) (h1 : o1 % 128 = 0) (x : S32x128.Idx) :
    wOf x2 x3 ((Rect.unit (s := S1536x1280) ![o0, o1] S32x128.size inb).emb x)
      = tileAt x2 x3 ⟨o1 / 128, by have : o1 + 128 ≤ 1280 := inb 1; omega⟩ ⟨o0 / 32, by have : o0 + 32 ≤ 1536 := inb 0; omega⟩ x := by
  have hx0 : (x 0).val < 32 := (x 0).isLt
  have hx1 : (x 1).val < 128 := (x 1).isLt
  have e0 : (((Rect.unit (s := S1536x1280) ![o0, o1] S32x128.size inb).emb x) 0).val = o0 + (x 0).val := by
    rw [Rect.emb_apply]; show o0 + 1 * _ = _; omega
  have e1 : (((Rect.unit (s := S1536x1280) ![o0, o1] S32x128.size inb).emb x) 1).val = o1 + (x 1).val := by
    rw [Rect.emb_apply]; show o1 + 1 * _ = _; omega
  generalize hy : (Rect.unit (s := S1536x1280) ![o0, o1] S32x128.size inb).emb x = y at e0 e1 ⊢
  unfold wOf
  congr 1
  · exact Fin.ext (by show (y 1).val / 128 = o1 / 128; omega)
  · exact Fin.ext (by show (y 0).val / 32 = o0 / 32; omega)
  · funext a
    match a with
    | 0 => exact Fin.ext (by show (y 0).val % 32 = (x 0).val; omega)
    | 1 => exact Fin.ext (by show (y 1).val % 128 = (x 1).val; omega)

/-- The same, the tile written as the body writes it: the rows read at literal places. -/
theorem wOf_tile_lit (x2 : Vec F S1280x768 .i8) (x3 : Vec F S48x1280 .i32) (o0 o1 s r : ℕ)
    (inb : ∀ a, (![o0, o1] : Fin 2 → ℕ) a + S32x128.size a ≤ S1536x1280.size a)
    (inb2 : ∀ a, (![o1, 0] : Fin 2 → ℕ) a + S128x768.size a ≤ S1280x768.size a)
    (inb3 : ∀ a, (![r, o1] : Fin 2 → ℕ) a + S1x128.size a ≤ S48x1280.size a)
    (hs : S384x128.Slices ![s, 0] S8x128) (h0 : o0 = 32 * r) (h1 : s = 8 * r) (h2 : o1 % 128 = 0) (x : S32x128.Idx) :
    wOf x2 x3 ((Rect.unit (s := S1536x1280) ![o0, o1] S32x128.size inb).emb x)
      = k0_pay26 k0_pay23 (extractStridedSlice S8x128 ![s, 0] (k0_pay24 (View.ld x2 (Rect.unit (s := S1280x768) ![o1, 0] S128x768.size inb2))) hs)
        (View.ld x3 (Rect.unit (s := S48x1280) ![r, o1] S1x128.size inb3)) x := by
  obtain ⟨n, rfl⟩ : ∃ n, o1 = 128 * n := ⟨o1 / 128, by omega⟩
  have hr : r + 1 ≤ 48 := inb3 0
  have hn : 128 * n + 128 ≤ 1280 := inb2 0
  rw [wOf_tile x2 x3 o0 (128 * n) inb (by omega) h2 x]
  have e0 : (⟨o0 / 32, by omega⟩ : Fin 48) = ⟨r, by omega⟩ := Fin.ext (by show o0 / 32 = r; omega)
  have e1 : (⟨128 * n / 128, by omega⟩ : Fin 10) = ⟨n, by omega⟩ := Fin.ext (by show 128 * n / 128 = n; omega)
  rw [e0, e1]
  subst h1
  rfl

/-- A tile stored at row `o0` and column `o1`, made of the words and the index row that belong there, is the part of the dense weight block it covers. -/
theorem piece_eq {x2 : Vec F S1280x768 .i8} {x3 : Vec F S48x1280 .i32} {o0 o1 : ℕ}
    (inb : ∀ a, (![o0, o1] : Fin 2 → ℕ) a + S32x128.size a ≤ S1536x1280.size a) (h0 : o0 % 32 = 0) (h1 : o1 % 128 = 0)
    {w : Vec F S32x128 .fp8e4m3}
    (hw : ∀ s r : ℕ, o0 / 4 = s → o0 / 32 = r →
      ∀ (inb2 : ∀ a, (![o1, 0] : Fin 2 → ℕ) a + S128x768.size a ≤ S1280x768.size a)
        (inb3 : ∀ a, (![r, o1] : Fin 2 → ℕ) a + S1x128.size a ≤ S48x1280.size a) (hs : S384x128.Slices ![s, 0] S8x128),
      k0_pay26 k0_pay23 (extractStridedSlice S8x128 ![s, 0] (k0_pay24 (View.ld x2 (Rect.unit (s := S1280x768) ![o1, 0] S128x768.size inb2))) hs)
        (View.ld x3 (Rect.unit (s := S48x1280) ![r, o1] S1x128.size inb3)) = w) (x : S32x128.Idx) :
    w x = wOf x2 x3 ((Rect.unit (s := S1536x1280) ![o0, o1] S32x128.size inb).emb x) := by
  have b0 : o0 + 32 ≤ 1536 := inb 0
  have b1 : o1 + 128 ≤ 1280 := inb 1
  have inb2 : ∀ a, (![o1, 0] : Fin 2 → ℕ) a + S128x768.size a ≤ S1280x768.size a :=
    Fin.forall_fin_two.mpr ⟨b1, Nat.le_refl 768⟩
  have inb3 : ∀ a, (![o0 / 32, o1] : Fin 2 → ℕ) a + S1x128.size a ≤ S48x1280.size a :=
    Fin.forall_fin_two.mpr ⟨by show o0 / 32 + 1 ≤ 48; omega, b1⟩
  have hs : S384x128.Slices ![o0 / 4, 0] S8x128 :=
    ⟨rfl, Fin.forall_fin_two.mpr ⟨by show o0 / 4 + 8 ≤ 384; omega, Nat.le_refl 128⟩⟩
  exact (congrFun (hw _ _ rfl rfl inb2 inb3 hs) x).symm.trans
    (wOf_tile_lit x2 x3 o0 o1 (o0 / 4) (o0 / 32) inb inb2 inb3 hs (by omega) (by omega) h1 x).symm

end Cert.Kernel.Gen
end
-- ==== Proof.PrintedOuts.lean ====
module

public import proofs.«01_k».proof.Proof.PrintedWeight

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves in the outputs' buffers -/

/-- The power of two with exponent `n`, as the body writes it: the float whose exponent field is `n + 127`. -/
def pow2 (n : BitVec 32) : F .f32 := Scalar.ofBits .f32 (Scalar.shli (Scalar.addi n 127#32) 23#32)

/-- One step of the body's search for an exponent field: it adds `b` to the field `n` where the magnitude `a` reaches the power of two `n + k`. -/
def step (a : F .f32) (b k n : BitVec 32) : BitVec 32 :=
  Scalar.select (Scalar.cmpf .oge a (pow2 (Scalar.addi n k))) (Scalar.addi n b) n

/-- The exponent field of `v`, by eight such steps. -/
def fieldOf (v : F .f32) : BitVec 32 :=
  (step (Scalar.absf v) 1#32 4294967170#32 (step (Scalar.absf v) 2#32 4294967171#32 (step (Scalar.absf v) 4#32 4294967173#32 (step (Scalar.absf v) 8#32 4294967177#32 (step (Scalar.absf v) 16#32 4294967185#32 (step (Scalar.absf v) 32#32 4294967201#32 (step (Scalar.absf v) 64#32 4294967233#32 (step (Scalar.absf v) 128#32 1#32 0#32))))))))

/-- The exponent the body takes from a field: `0` at the fields `0` and `255`, and the field less 126 at the others. -/
def expOf (n : BitVec 32) : BitVec 32 :=
  Scalar.select (Scalar.ori (Scalar.cmpi .eq n 0#32) (Scalar.cmpi .eq n 255#32)) 0#32 (Scalar.subi n 126#32)

/-- Word `j` of a vector of 16. -/
def wordAt (x0 : Vec F S16 .f32) (j : ℕ) (h : j < 16) : F .f32 := x0 (ValueIdx.ix1 ⟨j, h⟩)

/-- Stores that all agree with `G` and together cover the buffer leave `G` in it. -/
theorem canon_eq_of {S : Shape} {e : EltTy} (G : S.Idx → Elt F e) (L : List (View.Piece (Elt F) S e)) (hL : View.PiecesOf G L)
    (hc : ∀ y, ∃ p ∈ L, y ∈ p.1.set) : View.canon (Val := Elt F) L = G :=
  funext fun y => View.canon_apply_of_pieces G L hL.mem y (hc y)

/-- A word loaded from the buffer of 16 is that word of what the buffer holds. -/
theorem load_word (v : View sig .tc .smem S16 .f32) (f : v.ty.Contents (Elt F)) (j : ℕ) (h : j < 16) (inb) (hp) :
    View.readAt (Elt F) v (Rect.unit (s := S16) ![j] S1.size inb).toLoadRect f (Shape.Idx.first hp) = wordAt (View.read (Elt F) v f) j h := by
  rw [View.readAt_eq_ld]
  unfold wordAt
  show View.read (Elt F) v f _ = _
  congr 1
  funext a
  match a with
  | 0 => exact Fin.ext (by show j + 1 * 0 = j; omega)

/-- The largest of the 16 recorded maxima, divided by 448. -/
def amaxOf (x0 : Vec F S16 .f32) : F .f32 :=
  k0_pay5 (wordAt x0 0 (by decide)) (wordAt x0 1 (by decide)) (wordAt x0 2 (by decide)) (wordAt x0 3 (by decide)) (wordAt x0 4 (by decide)) (wordAt x0 5 (by decide)) (wordAt x0 6 (by decide)) (wordAt x0 7 (by decide)) (wordAt x0 8 (by decide)) (wordAt x0 9 (by decide)) (wordAt x0 10 (by decide)) (wordAt x0 11 (by decide)) (wordAt x0 12 (by decide)) (wordAt x0 13 (by decide)) (wordAt x0 14 (by decide)) (wordAt x0 15 (by decide))

/-- The exponent of the scale. -/
def exponentOf (x0 : Vec F S16 .f32) : BitVec 32 := expOf (fieldOf (amaxOf x0))

/-- The scale. -/
def scaleOf (x0 : Vec F S16 .f32) : F .f32 := pow2 (exponentOf x0)

/-- The codes of the activations `x1`. -/
def codesOf (x0 : Vec F S16 .f32) (x1 : Vec F S1536x1536 .bf16) : Vec F S1536x1536 .fp8e4m3 := k0_pay3 (exponentOf x0) x1

/-- The scale, in a buffer of one number. -/
def scalesOf (x0 : Vec F S16 .f32) : Vec F S1 .f32 := fun _ => scaleOf x0

/-- The record of maxima: the new one, then the first 15 of the old record. -/
def histOf (x0 : Vec F S16 .f32) (x1 : Vec F S1536x1536 .bf16) : Vec F S16 .f32 := fun y =>
  if (y 0).val = 0 then k0_pay4 x1 else wordAt x0 ((y 0).val - 1) (by have : (y 0).val < 16 := (y 0).isLt; omega)

/-- A store of the new maximum at word 0 of the record. -/
theorem hist_first (x0 : Vec F S16 .f32) (x1 : Vec F S1536x1536 .bf16) {w : Vec F S1536x1536 .bf16} (hw : w = x1) (inb) (x : (⟨1, S1.size⟩ : Shape).Idx) :
    k0_pay4 w = histOf x0 x1 ((Rect.unit (s := S16) ![0] S1.size inb).emb x) := by
  subst hw
  have hx : (x 0).val < 1 := (x 0).isLt
  unfold histOf
  have e : ((((Rect.unit (s := S16) ![0] S1.size inb).emb x) 0 : Fin _) : ℕ) = 0 := by
    show 0 + 1 * (x 0).val = _
    omega
  rw [if_pos e]

/-- A store of the old record's word `j` at word `j + 1` of the record. -/
theorem hist_next (x0 : Vec F S16 .f32) (x1 : Vec F S1536x1536 .bf16) (j o : ℕ) (h : j < 16) (ho : o = j + 1) {w : F .f32} (hw : w = wordAt x0 j h)
    (inb) (x : (⟨1, S1.size⟩ : Shape).Idx) :
    w = histOf x0 x1 ((Rect.unit (s := S16) ![o] S1.size inb).emb x) := by
  subst hw ho
  have hx : (x 0).val < 1 := (x 0).isLt
  unfold histOf
  have e : ((((Rect.unit (s := S16) ![j + 1] S1.size inb).emb x) 0 : Fin _) : ℕ) = j + 1 := by
    show j + 1 + 1 * (x 0).val = _
    omega
  rw [if_neg (by rw [e]; omega)]
  congr 1
  rw [e]; omega

/-- A block of the product, from codes `q`. -/
def yOf (x0 : Vec F S16 .f32) (q : Vec F S1536x1536 .fp8e4m3) (x2 : Vec F S1280x768 .i8) (x3 : Vec F S48x1280 .i32) (x4 : Vec F S1x1280 .f32) :
    Vec F S1536x1280 .bf16 := k0_pay1 (scaleOf x0) (k0_pay1474 q) (wOf x2 x3) x4

end Cert.Kernel.Gen
end
-- ==== Proof.PrintedRunA.lean ====
module

public import proofs.«01_k».proof.Proof.PrintedOuts

@[expose] public section

set_option maxRecDepth 100000

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 10752000 in
/-- The body at the grid's first point (where it also writes the codes, the scale and the record): from the inputs' buffers it leaves the
    block of the product, the codes, the scale and the record of maxima in the outputs' buffers. -/
theorem kernelRun0_A (c : Dev nD) (i : grid0.Coords) (arg1 : Memref sig .tc .smem S16 .f32) (harg1 : arg1.IsWhole) (arg2 : Memref sig .tc .vmem S1536x1536 .bf16) (harg2 : arg2.IsWhole) (arg3 : Memref sig .tc .vmem S1280x768 .i8) (harg3 : arg3.IsWhole) (arg4 : Memref sig .tc .vmem S48x1280 .i32) (harg4 : arg4.IsWhole) (arg5 : Memref sig .tc .vmem S1x1280 .f32) (harg5 : arg5.IsWhole) (arg6 : Memref sig .tc .vmem S1536x1280 .bf16) (harg6 : arg6.IsWhole) (arg7 : Memref sig .tc .vmem S1536x1536 .fp8e4m3) (harg7 : arg7.IsWhole) (arg8 : Memref sig .tc .smem S1 .f32) (harg8 : arg8.IsWhole) (arg9 : Memref sig .tc .smem S16 .f32) (harg9 : arg9.IsWhole) (arg10 : Memref sig .tc .vmem S1536x1280 .fp8e4m3) (harg10 : arg10.IsWhole) (hc0 : cond0_0 i)
    (x0 : Vec F S16 .f32) (x1 : Vec F S1536x1536 .bf16) (x2 : Vec F S1280x768 .i8) (x3 : Vec F S48x1280 .i32) (x4 : Vec F S1x1280 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (yOf x0 (codesOf x0 x1) x2 x3 x4) ∗ owns (c : Thread nD τ) arg7 fullShare (codesOf x0 x1) ∗ owns (c : Thread nD τ) arg8 fullShare (scalesOf x0) ∗ owns (c : Thread nD τ) arg9 fullShare (histOf x0 x1) ∗ (∃ d, owns (c : Thread nD τ) arg10 fullShare d)) -∗ K ⟨⟩))
          ⊢ wp frame (wpE (defs₀ (F := F)) Variants.none c none) E (cc0_sparse24_linear i arg1 harg1 arg2 harg2 arg3 harg3 arg4 harg4 arg5 harg5 arg6 harg6 arg7 harg7 arg8 harg8 arg9 harg9 arg10 harg10) K := by
    intro E K
    simp only [cc0_sparse24_linear_eq_skeleton]; unfold cc0_sparse24_linear_skel
    simp only [k0_part318_eq_skeleton, k0_part2_eq_skeleton, k0_part3_eq_skeleton, k0_part4_eq_skeleton, k0_part1_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part319_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part320_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part321_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part322_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, Hk⟩
    subst hf0 hf1 hf2 hf3 hf4
    sl_exec (disch := first | sl_exact hc0)
    sl_step
    have hpieces : View.PiecesOf (wOf (View.read (Elt F) arg3.view f2) (View.read (Elt F) arg4.view f3)) (kernelRun0_A.sl.HS0_480 c arg3 arg4 f2 f3) := by
      unfold kernelRun0_A.sl.HS0_480
      simp only [View.PiecesOf]
      iterate 480
        refine ⟨?_, ?_⟩
        · refine piece_eq (F := F) _ ?h0 ?h1 ?hw
          case h0 => rfl
          case h1 => rfl
          case hw =>
            intro s r hs hr
            simp only [Nat.reduceDiv] at hs hr
            subst hs hr
            intro i2 i3 hs
            rfl
      trivial
    have hcover : ∀ y : S1536x1280.Idx, ∃ p ∈ kernelRun0_A.sl.HS0_480 c arg3 arg4 f2 f3, y ∈ p.1.set :=
      View.cover_of_tiledL _ ![32, 128] (by sl_kernel_rfl)
    have hW : kernelRun0_A.sl.v13112 c arg3 arg4 arg10 f2 f3 = wOf (View.read (Elt F) arg3.view f2) (View.read (Elt F) arg4.view f3) := by
      unfold kernelRun0_A.sl.v13112
      rw [View.readCov_eq_canon']
      funext j
      have hj : (Rect.unit (s := S1536x1280) ![0, 0] S1536x1280.size inb_S1536x1280_S1536x1280_0_0).toLoadRect.idx j = j := by
        funext a
        match a with
        | 0 => exact Fin.ext (by show 0 + 1 * (j 0).val = _; omega)
        | 1 => exact Fin.ext (by show 0 + 1 * (j 1).val = _; omega)
      rw [hj]
      exact View.canon_apply_of_pieces _ _ hpieces.mem _ (hcover _)
    have hA : kernelRun0_A.sl.r_16 c arg1 f0 = amaxOf (View.read (Elt F) arg1.view f0) := by
      unfold kernelRun0_A.sl.r_16 amaxOf
      congr 1
      · exact load_word _ _ 0 (by decide) _ _
      · exact load_word _ _ 1 (by decide) _ _
      · exact load_word _ _ 2 (by decide) _ _
      · exact load_word _ _ 3 (by decide) _ _
      · exact load_word _ _ 4 (by decide) _ _
      · exact load_word _ _ 5 (by decide) _ _
      · exact load_word _ _ 6 (by decide) _ _
      · exact load_word _ _ 7 (by decide) _ _
      · exact load_word _ _ 8 (by decide) _ _
      · exact load_word _ _ 9 (by decide) _ _
      · exact load_word _ _ 10 (by decide) _ _
      · exact load_word _ _ 11 (by decide) _ _
      · exact load_word _ _ 12 (by decide) _ _
      · exact load_word _ _ 13 (by decide) _ _
      · exact load_word _ _ 14 (by decide) _ _
      · exact load_word _ _ 15 (by decide) _ _
    have h0 : kernelRun0_A.sl.v39 c arg1 f0 = step (Scalar.absf (kernelRun0_A.sl.r_16 c arg1 f0)) 128#32 1#32 0#32 := rfl
    have h1 : kernelRun0_A.sl.v47 c arg1 f0 = step (Scalar.absf (kernelRun0_A.sl.r_16 c arg1 f0)) 64#32 4294967233#32 (kernelRun0_A.sl.v39 c arg1 f0) := rfl
    have h2 : kernelRun0_A.sl.v55 c arg1 f0 = step (Scalar.absf (kernelRun0_A.sl.r_16 c arg1 f0)) 32#32 4294967201#32 (kernelRun0_A.sl.v47 c arg1 f0) := rfl
    have h3 : kernelRun0_A.sl.v63 c arg1 f0 = step (Scalar.absf (kernelRun0_A.sl.r_16 c arg1 f0)) 16#32 4294967185#32 (kernelRun0_A.sl.v55 c arg1 f0) := rfl
    have h4 : kernelRun0_A.sl.v71 c arg1 f0 = step (Scalar.absf (kernelRun0_A.sl.r_16 c arg1 f0)) 8#32 4294967177#32 (kernelRun0_A.sl.v63 c arg1 f0) := rfl
    have h5 : kernelRun0_A.sl.v79 c arg1 f0 = step (Scalar.absf (kernelRun0_A.sl.r_16 c arg1 f0)) 4#32 4294967173#32 (kernelRun0_A.sl.v71 c arg1 f0) := rfl
    have h6 : kernelRun0_A.sl.v87 c arg1 f0 = step (Scalar.absf (kernelRun0_A.sl.r_16 c arg1 f0)) 2#32 4294967171#32 (kernelRun0_A.sl.v79 c arg1 f0) := rfl
    have h7 : kernelRun0_A.sl.v95 c arg1 f0 = step (Scalar.absf (kernelRun0_A.sl.r_16 c arg1 f0)) 1#32 4294967170#32 (kernelRun0_A.sl.v87 c arg1 f0) := rfl
    have hS : kernelRun0_A.sl.r_35 c arg1 f0 = scaleOf (View.read (Elt F) arg1.view f0) := by
      have h : kernelRun0_A.sl.r_35 c arg1 f0 = pow2 (expOf (step (Scalar.absf (kernelRun0_A.sl.r_16 c arg1 f0)) 1#32 4294967170#32 (step (Scalar.absf (kernelRun0_A.sl.r_16 c arg1 f0)) 2#32 4294967171#32 (step (Scalar.absf (kernelRun0_A.sl.r_16 c arg1 f0)) 4#32 4294967173#32 (kernelRun0_A.sl.v71 c arg1 f0))))) := rfl
      rw [h, h4, h3, h2, h1, h0, hA]
      rfl
    have hE : kernelRun0_A.sl.v100 c arg1 f0 = exponentOf (View.read (Elt F) arg1.view f0) := by
      have h : kernelRun0_A.sl.v100 c arg1 f0 = expOf (kernelRun0_A.sl.v95 c arg1 f0) := rfl
      rw [h, h7, h6, h5, h4, h3, h2, h1, h0, hA]
      rfl
    have hH6 : kernelRun0_A.sl.H6_1 c arg1 arg2 f0 f1
        = [⟨Rect.unit (s := S1536x1536) ![0, 0] ![1536, 1536] inb_S1536x1536_S1536x1536_0_0, codesOf (View.read (Elt F) arg1.view f0) (View.read (Elt F) arg2.view f1)⟩] := by
      unfold kernelRun0_A.sl.H6_1 codesOf
      rw [hE, View.readAt_eq_ld, View.ld_unit_lit (S := S1536x1536) inb_S1536x1536_S1536x1536_0_0 _ (by decide)]
    have hQ : kernelRun0_A.sl.r_742 c arg1 arg2 arg7 f0 f1
        = k0_pay1474 (codesOf (View.read (Elt F) arg1.view f0) (View.read (Elt F) arg2.view f1)) := by
      unfold kernelRun0_A.sl.r_742 kernelRun0_A.sl.v13110
      rw [hH6]
      generalize codesOf (View.read (Elt F) arg1.view f0) (View.read (Elt F) arg2.view f1) = W
      exact congrArg k0_pay1474 (View.readCov_unit_lit (S := S1536x1536) arg7.view inb_S1536x1536_S1536x1536_0_0 W (by decide))
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr; swap; · iexact H5
      ipureintro
      rw [View.read_writes_eq_canon _ _ _ (View.cover_of_tiled _ ![1536, 1280] (by rfl)), hW, hS, hQ]
      refine (View.canon_cons_unit_lit (S := S1536x1280) inb_S1536x1280_S1536x1280_0_0 _ [] (by decide)).trans ?_
      exact congrArg (fun w => k0_pay1 (scaleOf (View.read (Elt F) arg1.view f0)) (k0_pay1474 (codesOf (View.read (Elt F) arg1.view f0) (View.read (Elt F) arg2.view f1))) (wOf (View.read (Elt F) arg3.view f2) (View.read (Elt F) arg4.view f3)) w)
        (View.ld_unit_lit (S := S1x1280) inb_S1x1280_S1x1280_0_0 (View.read (Elt F) arg5.view f4) (by decide))
    isplitl [H6]
    · iexists _; isplitr; swap; · iexact H6
      ipureintro
      rw [hH6, View.read_writes_eq_canon _ _ _ (View.cover_of_tiled _ ![1536, 1536] (by rfl))]
      exact View.canon_cons_unit_lit (S := S1536x1536) (Val := Elt F) inb_S1536x1536_S1536x1536_0_0 _ [] (by decide)
    isplitl [H7]
    · iexists _; isplitr; swap; · iexact H7
      ipureintro
      rw [View.read_writes_eq_canon _ _ _ (View.cover_of_tiled _ ![1] (by rfl))]
      refine (View.canon_cons_unit_lit (S := S1) inb_S1_S1_0 _ [] (by decide)).trans ?_
      exact funext fun _ => hS
    isplitl [H8]
    · iexists _; isplitr; swap; · iexact H8
      ipureintro
      rw [View.read_writes_eq_canon _ _ _ (View.cover_of_tiledL _ ![1] (by rfl))]
      refine canon_eq_of _ _ ?_ (View.cover_of_tiledL _ ![1] (by rfl))
      simp only [View.PiecesOf]
      refine ⟨hist_next _ _ 14 15 (by decide) rfl (load_word _ _ 14 (by decide) _ _) _, ?_⟩
      refine ⟨hist_next _ _ 13 14 (by decide) rfl (load_word _ _ 13 (by decide) _ _) _, ?_⟩
      refine ⟨hist_next _ _ 12 13 (by decide) rfl (load_word _ _ 12 (by decide) _ _) _, ?_⟩
      refine ⟨hist_next _ _ 11 12 (by decide) rfl (load_word _ _ 11 (by decide) _ _) _, ?_⟩
      refine ⟨hist_next _ _ 10 11 (by decide) rfl (load_word _ _ 10 (by decide) _ _) _, ?_⟩
      refine ⟨hist_next _ _ 9 10 (by decide) rfl (load_word _ _ 9 (by decide) _ _) _, ?_⟩
      refine ⟨hist_next _ _ 8 9 (by decide) rfl (load_word _ _ 8 (by decide) _ _) _, ?_⟩
      refine ⟨hist_next _ _ 7 8 (by decide) rfl (load_word _ _ 7 (by decide) _ _) _, ?_⟩
      refine ⟨hist_next _ _ 6 7 (by decide) rfl (load_word _ _ 6 (by decide) _ _) _, ?_⟩
      refine ⟨hist_next _ _ 5 6 (by decide) rfl (load_word _ _ 5 (by decide) _ _) _, ?_⟩
      refine ⟨hist_next _ _ 4 5 (by decide) rfl (load_word _ _ 4 (by decide) _ _) _, ?_⟩
      refine ⟨hist_next _ _ 3 4 (by decide) rfl (load_word _ _ 3 (by decide) _ _) _, ?_⟩
      refine ⟨hist_next _ _ 2 3 (by decide) rfl (load_word _ _ 2 (by decide) _ _) _, ?_⟩
      refine ⟨hist_next _ _ 1 2 (by decide) rfl (load_word _ _ 1 (by decide) _ _) _, ?_⟩
      refine ⟨hist_next _ _ 0 1 (by decide) rfl (load_word _ _ 0 (by decide) _ _) _, ?_⟩
      exact ⟨hist_first _ _ (View.ld_unit_lit (S := S1536x1536) inb_S1536x1536_S1536x1536_0_0 (View.read (Elt F) arg2.view f1) (by decide)) _, trivial⟩
    iexists _, _; isplitr; swap; · iexact HS0
    ipureintro; rfl

end Cert.Kernel.Gen
end
-- ==== Proof.PrintedRunB.lean ====
module

public import proofs.«01_k».proof.Proof.PrintedOuts

@[expose] public section

set_option maxRecDepth 100000

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 20000000 in
/-- The body at the grid's later points: from the inputs' buffers and the codes written at the first point it leaves the block of the product, and
    leaves the codes, the scale and the record as they were. -/
theorem kernelRun0_B (c : Dev nD) (i : grid0.Coords) (arg1 : Memref sig .tc .smem S16 .f32) (harg1 : arg1.IsWhole) (arg2 : Memref sig .tc .vmem S1536x1536 .bf16) (harg2 : arg2.IsWhole) (arg3 : Memref sig .tc .vmem S1280x768 .i8) (harg3 : arg3.IsWhole) (arg4 : Memref sig .tc .vmem S48x1280 .i32) (harg4 : arg4.IsWhole) (arg5 : Memref sig .tc .vmem S1x1280 .f32) (harg5 : arg5.IsWhole) (arg6 : Memref sig .tc .vmem S1536x1280 .bf16) (harg6 : arg6.IsWhole) (arg7 : Memref sig .tc .vmem S1536x1536 .fp8e4m3) (harg7 : arg7.IsWhole) (arg8 : Memref sig .tc .smem S1 .f32) (harg8 : arg8.IsWhole) (arg9 : Memref sig .tc .smem S16 .f32) (harg9 : arg9.IsWhole) (arg10 : Memref sig .tc .vmem S1536x1280 .fp8e4m3) (harg10 : arg10.IsWhole) (hc0 : ¬cond0_0 i)
    (x0 : Vec F S16 .f32) (x1 : Vec F S1536x1536 .bf16) (x2 : Vec F S1280x768 .i8) (x3 : Vec F S48x1280 .i32) (x4 : Vec F S1x1280 .f32) (x6 : Vec F S1536x1536 .fp8e4m3) (x7 : Vec F S1 .f32) (x8 : Vec F S16 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare x6 ∗ owns (c : Thread nD τ) arg8 fullShare x7 ∗ owns (c : Thread nD τ) arg9 fullShare x8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (yOf x0 x6 x2 x3 x4) ∗ owns (c : Thread nD τ) arg7 fullShare x6 ∗ owns (c : Thread nD τ) arg8 fullShare x7 ∗ owns (c : Thread nD τ) arg9 fullShare x8 ∗ (∃ d, owns (c : Thread nD τ) arg10 fullShare d)) -∗ K ⟨⟩))
          ⊢ wp frame (wpE (defs₀ (F := F)) Variants.none c none) E (cc0_sparse24_linear i arg1 harg1 arg2 harg2 arg3 harg3 arg4 harg4 arg5 harg5 arg6 harg6 arg7 harg7 arg8 harg8 arg9 harg9 arg10 harg10) K := by
    intro E K
    simp only [cc0_sparse24_linear_eq_skeleton]; unfold cc0_sparse24_linear_skel
    simp only [k0_part318_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part319_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part320_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part321_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part322_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%ds0, %fs0, -, HS0⟩, Hk⟩
    subst hf0 hf1 hf2 hf3 hf4 hf6 hf7 hf8
    sl_exec (disch := first | sl_exact hc0)
    sl_step
    have hpieces : View.PiecesOf (wOf (View.read (Elt F) arg3.view f2) (View.read (Elt F) arg4.view f3)) (kernelRun0_B.sl.HS0_480 c arg3 arg4 f2 f3) := by
      unfold kernelRun0_B.sl.HS0_480
      simp only [View.PiecesOf]
      iterate 480
        refine ⟨?_, ?_⟩
        · refine piece_eq (F := F) _ ?h0 ?h1 ?hw
          case h0 => rfl
          case h1 => rfl
          case hw =>
            intro s r hs hr
            simp only [Nat.reduceDiv] at hs hr
            subst hs hr
            intro i2 i3 hs
            rfl
      trivial
    have hcover : ∀ y : S1536x1280.Idx, ∃ p ∈ kernelRun0_B.sl.HS0_480 c arg3 arg4 f2 f3, y ∈ p.1.set :=
      View.cover_of_tiledL _ ![32, 128] (by sl_kernel_rfl)
    have hW : kernelRun0_B.sl.v13112 c arg3 arg4 arg10 f2 f3 = wOf (View.read (Elt F) arg3.view f2) (View.read (Elt F) arg4.view f3) := by
      unfold kernelRun0_B.sl.v13112
      rw [View.readCov_eq_canon']
      funext j
      have hj : (Rect.unit (s := S1536x1280) ![0, 0] S1536x1280.size inb_S1536x1280_S1536x1280_0_0).toLoadRect.idx j = j := by
        funext a
        match a with
        | 0 => exact Fin.ext (by show 0 + 1 * (j 0).val = _; omega)
        | 1 => exact Fin.ext (by show 0 + 1 * (j 1).val = _; omega)
      rw [hj]
      exact View.canon_apply_of_pieces _ _ hpieces.mem _ (hcover _)
    have hA : kernelRun0_B.sl.r_16 c arg1 f0 = amaxOf (View.read (Elt F) arg1.view f0) := by
      unfold kernelRun0_B.sl.r_16 amaxOf
      congr 1
      · exact load_word _ _ 0 (by decide) _ _
      · exact load_word _ _ 1 (by decide) _ _
      · exact load_word _ _ 2 (by decide) _ _
      · exact load_word _ _ 3 (by decide) _ _
      · exact load_word _ _ 4 (by decide) _ _
      · exact load_word _ _ 5 (by decide) _ _
      · exact load_word _ _ 6 (by decide) _ _
      · exact load_word _ _ 7 (by decide) _ _
      · exact load_word _ _ 8 (by decide) _ _
      · exact load_word _ _ 9 (by decide) _ _
      · exact load_word _ _ 10 (by decide) _ _
      · exact load_word _ _ 11 (by decide) _ _
      · exact load_word _ _ 12 (by decide) _ _
      · exact load_word _ _ 13 (by decide) _ _
      · exact load_word _ _ 14 (by decide) _ _
      · exact load_word _ _ 15 (by decide) _ _
    have h0 : kernelRun0_B.sl.v39 c arg1 f0 = step (Scalar.absf (kernelRun0_B.sl.r_16 c arg1 f0)) 128#32 1#32 0#32 := rfl
    have h1 : kernelRun0_B.sl.v47 c arg1 f0 = step (Scalar.absf (kernelRun0_B.sl.r_16 c arg1 f0)) 64#32 4294967233#32 (kernelRun0_B.sl.v39 c arg1 f0) := rfl
    have h2 : kernelRun0_B.sl.v55 c arg1 f0 = step (Scalar.absf (kernelRun0_B.sl.r_16 c arg1 f0)) 32#32 4294967201#32 (kernelRun0_B.sl.v47 c arg1 f0) := rfl
    have h3 : kernelRun0_B.sl.v63 c arg1 f0 = step (Scalar.absf (kernelRun0_B.sl.r_16 c arg1 f0)) 16#32 4294967185#32 (kernelRun0_B.sl.v55 c arg1 f0) := rfl
    have h4 : kernelRun0_B.sl.v71 c arg1 f0 = step (Scalar.absf (kernelRun0_B.sl.r_16 c arg1 f0)) 8#32 4294967177#32 (kernelRun0_B.sl.v63 c arg1 f0) := rfl
    have hS : kernelRun0_B.sl.r_18 c arg1 f0 = scaleOf (View.read (Elt F) arg1.view f0) := by
      have h : kernelRun0_B.sl.r_18 c arg1 f0 = pow2 (expOf (step (Scalar.absf (kernelRun0_B.sl.r_16 c arg1 f0)) 1#32 4294967170#32 (step (Scalar.absf (kernelRun0_B.sl.r_16 c arg1 f0)) 2#32 4294967171#32 (step (Scalar.absf (kernelRun0_B.sl.r_16 c arg1 f0)) 4#32 4294967173#32 (kernelRun0_B.sl.v71 c arg1 f0))))) := rfl
      rw [h, h4, h3, h2, h1, h0, hA]
      rfl
    have hQ : kernelRun0_B.sl.r_725 c arg7 f6 = k0_pay1474 (View.read (Elt F) arg7.view f6) :=
      congrArg k0_pay1474 (View.ld_unit_lit (S := S1536x1536) inb_S1536x1536_S1536x1536_0_0 (View.read (Elt F) arg7.view f6) (by decide))
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr; swap; · iexact H5
      ipureintro
      rw [View.read_writes_eq_canon _ _ _ (View.cover_of_tiled _ ![1536, 1280] (by rfl)), hW, hS, hQ]
      refine (View.canon_cons_unit_lit (S := S1536x1280) inb_S1536x1280_S1536x1280_0_0 _ [] (by decide)).trans ?_
      exact congrArg (fun w => k0_pay1 (scaleOf (View.read (Elt F) arg1.view f0)) (k0_pay1474 (View.read (Elt F) arg7.view f6)) (wOf (View.read (Elt F) arg3.view f2) (View.read (Elt F) arg4.view f3)) w)
        (View.ld_unit_lit (S := S1x1280) inb_S1x1280_S1x1280_0_0 (View.read (Elt F) arg5.view f4) (by decide))
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    iexists _, _; isplitr; swap; · iexact HS0
    ipureintro; rfl

end Cert.Kernel.Gen
end
-- ==== Proof.PrintedRun.lean ====
module

public import proofs.«01_k».proof.Proof.PrintedRunA
public import proofs.«01_k».proof.Proof.PrintedRunB
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The grid's first point. -/
def first : Fin cfg0.N := ⟨0, by rw [show cfg0.N = 7 from N_0]; decide⟩

/-- The codes, the scale and the record of maxima, which the first point writes. -/
def codes (c : Dev nD) : Vec F S1536x1536 .fp8e4m3 := codesOf (iblk m c 0 first) (iblk m c 1 first)
/-- The scale. -/
def scales (c : Dev nD) : Vec F S1 .f32 := scalesOf (iblk m c 0 first)
/-- The record of maxima. -/
def hist (c : Dev nD) : Vec F S16 .f32 := histOf (iblk m c 0 first) (iblk m c 1 first)

/-- The proof data of the pipeline on core `c`: the arrays as the region finds them; after the body at point `t` each input's buffer at its block,
    the product's at its block, and the codes', the scale's and the record's at what the first point wrote. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yOf (iblk m c 0 t) (codes m c) (iblk m c 2 t) (iblk m c 3 t) (iblk m c 4 t)
    | ⟨6, _⟩ => codes m c
    | ⟨7, _⟩ => scales m c
    | ⟨8, _⟩ => hist m c
  Φ _ := Pipeline.ΦA spec0 c
  q _ := fullShare
  owed _ := 0

/-- The proof data's arrays are what the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
/-- What the staging buffer of the activations holds after point `t`. -/
theorem after0_1 (c : Dev nD) (t : Fin cfg0.N) : (dats m 0 c).after 1 t = iblk m c 1 t := by dsimp only [dats]
/-- What the staging buffer of the value bytes holds after point `t`. -/
theorem after0_2 (c : Dev nD) (t : Fin cfg0.N) : (dats m 0 c).after 2 t = iblk m c 2 t := by dsimp only [dats]
/-- What the staging buffer of the index words holds after point `t`. -/
theorem after0_3 (c : Dev nD) (t : Fin cfg0.N) : (dats m 0 c).after 3 t = iblk m c 3 t := by dsimp only [dats]
/-- What the staging buffer of the weight scales holds after point `t`. -/
theorem after0_4 (c : Dev nD) (t : Fin cfg0.N) : (dats m 0 c).after 4 t = iblk m c 4 t := by dsimp only [dats]
/-- What the staging buffer of the product holds after point `t`. -/
theorem after0_5 (c : Dev nD) (t : Fin cfg0.N) : (dats m 0 c).after 5 t = yOf (iblk m c 0 t) (codes m c) (iblk m c 2 t) (iblk m c 3 t) (iblk m c 4 t) := by dsimp only [dats]
/-- What the staging buffer of the codes holds after point `t`. -/
theorem after0_6 (c : Dev nD) (t : Fin cfg0.N) : (dats m 0 c).after 6 t = codes m c := by dsimp only [dats]
/-- What the staging buffer of the scale holds after point `t`. -/
theorem after0_7 (c : Dev nD) (t : Fin cfg0.N) : (dats m 0 c).after 7 t = scales m c := by dsimp only [dats]
/-- What the staging buffer of the new record of maxima holds after point `t`. -/
theorem after0_8 (c : Dev nD) (t : Fin cfg0.N) : (dats m 0 c).after 8 t = hist m c := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
/-- What the staging buffer of the activations holds before point `t`. -/
theorem before0_1 (c : Dev nD) (t : Fin cfg0.N) (d) : (dats m 0 c).before 1 t d = iblk m c 1 t :=
  before0_1_of m (dats m 0 c) (A_eq m c 1) (after0_1 m c) t d
/-- What the staging buffer of the value bytes holds before point `t`. -/
theorem before0_2 (c : Dev nD) (t : Fin cfg0.N) (d) : (dats m 0 c).before 2 t d = iblk m c 2 t :=
  before0_2_of m (dats m 0 c) (A_eq m c 2) (after0_2 m c) t d
/-- What the staging buffer of the index words holds before point `t`. -/
theorem before0_3 (c : Dev nD) (t : Fin cfg0.N) (d) : (dats m 0 c).before 3 t d = iblk m c 3 t :=
  before0_3_of m (dats m 0 c) (A_eq m c 3) (after0_3 m c) t d
/-- What the staging buffer of the weight scales holds before point `t`. -/
theorem before0_4 (c : Dev nD) (t : Fin cfg0.N) (d) : (dats m 0 c).before 4 t d = iblk m c 4 t :=
  before0_4_of m (dats m 0 c) (A_eq m c 4) (after0_4 m c) t d

/-- The body writes output 6 at the first point, -/
theorem live0_6 (t : Fin cfg0.N) (ht : t.val = 0) : cfg0.idle 6 (grid0.coords t) = false := by
  have h : k0_cond1 (grid0.coords t) = 1#1 := (hcond0_0 t).mpr (by rw [ht])
  show (!(k0_cond1 (grid0.coords t) == 1#1)) = false
  rw [h]; rfl
/-- and not at the others. -/
theorem idle0_6 (t : Fin cfg0.N) (ht : t.val ≠ 0) : cfg0.idle 6 (grid0.coords t) = true := by
  have hN : t.val < 7 := lt_of_lt_of_eq t.isLt (show cfg0.N = 7 from N_0)
  have h : ¬ k0_cond1 (grid0.coords t) = 1#1 := fun h => ht (by have := (hcond0_0 t).mp h; omega)
  show (!(k0_cond1 (grid0.coords t) == 1#1)) = true
  rw [beq_eq_false_iff_ne.mpr h]; rfl
/-- At a point after the first, output 6's buffer holds what the first point wrote there. -/
theorem before0_6 (c : Dev nD) : ∀ (n : ℕ) (t : Fin cfg0.N), t.val = n + 1 → ∀ d, (dats m 0 c).before 6 t d = codes m c := by
  intro n
  induction n with
  | zero =>
    intro t ht d
    have hN : t.val < 7 := lt_of_lt_of_eq t.isLt (show cfg0.N = 7 from N_0)
    rw [Dat.before_of_pos _ 6 t (by omega) rfl]
    have hf : (cfg0.win 6).flush ⟨t.val - 1, Nat.lt_of_le_of_lt (Nat.sub_le _ _) t.isLt⟩ = false := by
      rw [Bool.eq_false_iff, Ne, flush0_6]
      show ¬ (t.val - 1) % 7 = 6
      omega
    rw [hf, if_neg Bool.false_ne_true]
    unfold Dat.left
    rw [live0_6 ⟨t.val - 1, _⟩ (by show t.val - 1 = 0; omega)]
    exact after0_6 m c _
  | succ n ih =>
    intro t ht d
    have hN : t.val < 7 := lt_of_lt_of_eq t.isLt (show cfg0.N = 7 from N_0)
    rw [Dat.before_of_pos _ 6 t (by omega) rfl]
    have hf : (cfg0.win 6).flush ⟨t.val - 1, Nat.lt_of_le_of_lt (Nat.sub_le _ _) t.isLt⟩ = false := by
      rw [Bool.eq_false_iff, Ne, flush0_6]
      show ¬ (t.val - 1) % 7 = 6
      omega
    rw [hf, if_neg Bool.false_ne_true]
    unfold Dat.left
    rw [idle0_6 ⟨t.val - 1, _⟩ (by show t.val - 1 ≠ 0; omega)]
    exact ih _ (by show t.val - 1 = _; omega) d

/-- The body writes output 7 at the first point, -/
theorem live0_7 (t : Fin cfg0.N) (ht : t.val = 0) : cfg0.idle 7 (grid0.coords t) = false := by
  have h : k0_cond1 (grid0.coords t) = 1#1 := (hcond0_0 t).mpr (by rw [ht])
  show (!(k0_cond1 (grid0.coords t) == 1#1)) = false
  rw [h]; rfl
/-- and not at the others. -/
theorem idle0_7 (t : Fin cfg0.N) (ht : t.val ≠ 0) : cfg0.idle 7 (grid0.coords t) = true := by
  have hN : t.val < 7 := lt_of_lt_of_eq t.isLt (show cfg0.N = 7 from N_0)
  have h : ¬ k0_cond1 (grid0.coords t) = 1#1 := fun h => ht (by have := (hcond0_0 t).mp h; omega)
  show (!(k0_cond1 (grid0.coords t) == 1#1)) = true
  rw [beq_eq_false_iff_ne.mpr h]; rfl
/-- At a point after the first, output 7's buffer holds what the first point wrote there. -/
theorem before0_7 (c : Dev nD) : ∀ (n : ℕ) (t : Fin cfg0.N), t.val = n + 1 → ∀ d, (dats m 0 c).before 7 t d = scales m c := by
  intro n
  induction n with
  | zero =>
    intro t ht d
    have hN : t.val < 7 := lt_of_lt_of_eq t.isLt (show cfg0.N = 7 from N_0)
    rw [Dat.before_of_pos _ 7 t (by omega) rfl]
    have hf : (cfg0.win 7).flush ⟨t.val - 1, Nat.lt_of_le_of_lt (Nat.sub_le _ _) t.isLt⟩ = false := by
      rw [Bool.eq_false_iff, Ne, flush0_7]
      show ¬ (t.val - 1) % 7 = 6
      omega
    rw [hf, if_neg Bool.false_ne_true]
    unfold Dat.left
    rw [live0_7 ⟨t.val - 1, _⟩ (by show t.val - 1 = 0; omega)]
    exact after0_7 m c _
  | succ n ih =>
    intro t ht d
    have hN : t.val < 7 := lt_of_lt_of_eq t.isLt (show cfg0.N = 7 from N_0)
    rw [Dat.before_of_pos _ 7 t (by omega) rfl]
    have hf : (cfg0.win 7).flush ⟨t.val - 1, Nat.lt_of_le_of_lt (Nat.sub_le _ _) t.isLt⟩ = false := by
      rw [Bool.eq_false_iff, Ne, flush0_7]
      show ¬ (t.val - 1) % 7 = 6
      omega
    rw [hf, if_neg Bool.false_ne_true]
    unfold Dat.left
    rw [idle0_7 ⟨t.val - 1, _⟩ (by show t.val - 1 ≠ 0; omega)]
    exact ih _ (by show t.val - 1 = _; omega) d

/-- The body writes output 8 at the first point, -/
theorem live0_8 (t : Fin cfg0.N) (ht : t.val = 0) : cfg0.idle 8 (grid0.coords t) = false := by
  have h : k0_cond1 (grid0.coords t) = 1#1 := (hcond0_0 t).mpr (by rw [ht])
  show (!(k0_cond1 (grid0.coords t) == 1#1)) = false
  rw [h]; rfl
/-- and not at the others. -/
theorem idle0_8 (t : Fin cfg0.N) (ht : t.val ≠ 0) : cfg0.idle 8 (grid0.coords t) = true := by
  have hN : t.val < 7 := lt_of_lt_of_eq t.isLt (show cfg0.N = 7 from N_0)
  have h : ¬ k0_cond1 (grid0.coords t) = 1#1 := fun h => ht (by have := (hcond0_0 t).mp h; omega)
  show (!(k0_cond1 (grid0.coords t) == 1#1)) = true
  rw [beq_eq_false_iff_ne.mpr h]; rfl
/-- At a point after the first, output 8's buffer holds what the first point wrote there. -/
theorem before0_8 (c : Dev nD) : ∀ (n : ℕ) (t : Fin cfg0.N), t.val = n + 1 → ∀ d, (dats m 0 c).before 8 t d = hist m c := by
  intro n
  induction n with
  | zero =>
    intro t ht d
    have hN : t.val < 7 := lt_of_lt_of_eq t.isLt (show cfg0.N = 7 from N_0)
    rw [Dat.before_of_pos _ 8 t (by omega) rfl]
    have hf : (cfg0.win 8).flush ⟨t.val - 1, Nat.lt_of_le_of_lt (Nat.sub_le _ _) t.isLt⟩ = false := by
      rw [Bool.eq_false_iff, Ne, flush0_8]
      show ¬ (t.val - 1) % 7 = 6
      omega
    rw [hf, if_neg Bool.false_ne_true]
    unfold Dat.left
    rw [live0_8 ⟨t.val - 1, _⟩ (by show t.val - 1 = 0; omega)]
    exact after0_8 m c _
  | succ n ih =>
    intro t ht d
    have hN : t.val < 7 := lt_of_lt_of_eq t.isLt (show cfg0.N = 7 from N_0)
    rw [Dat.before_of_pos _ 8 t (by omega) rfl]
    have hf : (cfg0.win 8).flush ⟨t.val - 1, Nat.lt_of_le_of_lt (Nat.sub_le _ _) t.isLt⟩ = false := by
      rw [Bool.eq_false_iff, Ne, flush0_8]
      show ¬ (t.val - 1) % 7 = 6
      omega
    rw [hf, if_neg Bool.false_ne_true]
    unfold Dat.left
    rw [idle0_8 ⟨t.val - 1, _⟩ (by show t.val - 1 ≠ 0; omega)]
    exact ih _ (by show t.val - 1 = _; omega) d

/-- An input's buffer is left at its block. -/
theorem leaves0_0 (c : Dev nD) (t : Fin cfg0.N) : (dats m 0 c).leavesExact 0 t = owns (c : Thread nD τ) (st0_0 t) fullShare ((dats m 0 c).after 0 t) := by
  unfold Dat.leavesExact; rw [show cfg0.idle 0 (cfg0.grid.coords t) = false from rfl]
/-- What the body leaves in the staging buffer of the activations at point `t`. -/
theorem leaves0_1 (c : Dev nD) (t : Fin cfg0.N) : (dats m 0 c).leavesExact 1 t = owns (c : Thread nD τ) (st0_1 t) fullShare ((dats m 0 c).after 1 t) := by
  unfold Dat.leavesExact; rw [show cfg0.idle 1 (cfg0.grid.coords t) = false from rfl]
/-- What the body leaves in the staging buffer of the value bytes at point `t`. -/
theorem leaves0_2 (c : Dev nD) (t : Fin cfg0.N) : (dats m 0 c).leavesExact 2 t = owns (c : Thread nD τ) (st0_2 t) fullShare ((dats m 0 c).after 2 t) := by
  unfold Dat.leavesExact; rw [show cfg0.idle 2 (cfg0.grid.coords t) = false from rfl]
/-- What the body leaves in the staging buffer of the index words at point `t`. -/
theorem leaves0_3 (c : Dev nD) (t : Fin cfg0.N) : (dats m 0 c).leavesExact 3 t = owns (c : Thread nD τ) (st0_3 t) fullShare ((dats m 0 c).after 3 t) := by
  unfold Dat.leavesExact; rw [show cfg0.idle 3 (cfg0.grid.coords t) = false from rfl]
/-- What the body leaves in the staging buffer of the weight scales at point `t`. -/
theorem leaves0_4 (c : Dev nD) (t : Fin cfg0.N) : (dats m 0 c).leavesExact 4 t = owns (c : Thread nD τ) (st0_4 t) fullShare ((dats m 0 c).after 4 t) := by
  unfold Dat.leavesExact; rw [show cfg0.idle 4 (cfg0.grid.coords t) = false from rfl]
/-- What the body leaves in the staging buffer of the product at point `t`. -/
theorem leaves0_5 (c : Dev nD) (t : Fin cfg0.N) : (dats m 0 c).leavesExact 5 t = owns (c : Thread nD τ) (st0_5 t) fullShare ((dats m 0 c).after 5 t) := by
  unfold Dat.leavesExact; rw [show cfg0.idle 5 (cfg0.grid.coords t) = false from rfl]

/-- Output 6's buffer is left holding what the first point writes there. -/
theorem leaves0_6 (c : Dev nD) (t : Fin cfg0.N) : owns (c : Thread nD τ) (st0_6 t) fullShare (codes m c) ⊢ (dats m 0 c).leavesExact 6 t := by
  unfold Dat.leavesExact
  by_cases ht : t.val = 0
  · rw [show cfg0.idle 6 (cfg0.grid.coords t) = false from live0_6 t ht]
    exact .rfl
  · rw [show cfg0.idle 6 (cfg0.grid.coords t) = true from idle0_6 t ht]
    cases h : (cfg0.win 6).flush t
    · have hb := before0_6 m c (t.val - 1) t (by omega)
      iintro H
      iexists (codes m c)
      rw [hb]
      iexact H
    · exact .rfl

/-- Output 7's buffer is left holding what the first point writes there. -/
theorem leaves0_7 (c : Dev nD) (t : Fin cfg0.N) : owns (c : Thread nD τ) (st0_7 t) fullShare (scales m c) ⊢ (dats m 0 c).leavesExact 7 t := by
  unfold Dat.leavesExact
  by_cases ht : t.val = 0
  · rw [show cfg0.idle 7 (cfg0.grid.coords t) = false from live0_7 t ht]
    exact .rfl
  · rw [show cfg0.idle 7 (cfg0.grid.coords t) = true from idle0_7 t ht]
    cases h : (cfg0.win 7).flush t
    · have hb := before0_7 m c (t.val - 1) t (by omega)
      iintro H
      iexists (scales m c)
      rw [hb]
      iexact H
    · exact .rfl

/-- Output 8's buffer is left holding what the first point writes there. -/
theorem leaves0_8 (c : Dev nD) (t : Fin cfg0.N) : owns (c : Thread nD τ) (st0_8 t) fullShare (hist m c) ⊢ (dats m 0 c).leavesExact 8 t := by
  unfold Dat.leavesExact
  by_cases ht : t.val = 0
  · rw [show cfg0.idle 8 (cfg0.grid.coords t) = false from live0_8 t ht]
    exact .rfl
  · rw [show cfg0.idle 8 (cfg0.grid.coords t) = true from idle0_8 t ht]
    cases h : (cfg0.win 8).flush t
    · have hb := before0_8 m c (t.val - 1) t (by omega)
      iintro H
      iexists (hist m c)
      rw [hb]
      iexact H
    · exact .rfl

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 1600000 in
/-- The body at any point: at the first it writes the codes, the scale and the record; at the others it finds them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    leaves0_0, after0_0, leaves0_1, after0_1, leaves0_2, after0_2, leaves0_3, after0_3, leaves0_4, after0_4, leaves0_5, after0_5]
  rw [show (dats m 0 c).Φ t.castSucc = Pipeline.ΦA spec0 c from rfl, PhiA0_eq]
  have hN : t.val < 7 := lt_of_lt_of_eq t.isLt (show cfg0.N = 7 from N_0)
  by_cases h0 : t.val = 0
  · obtain rfl : t = first := Fin.ext h0
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords first) _ _ _ _ _ _ _ _ _ _ _ _ _ _ _ _ _ _ _ _ ((hcond0_0 first).mpr (by rw [h0])) (iblk m c 0 first) (iblk m c 1 first) (iblk m c 2 first) (iblk m c 3 first) (iblk m c 4 first)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [HS0]; · iexact HS0
    iintro ⟨H0, H1, H2, H3, H4, H5, H6, H7, H8, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves0_6 m c first); iexact H6
    isplitl [H7]; · iapply (leaves0_7 m c first); iexact H7
    iapply (leaves0_8 m c first); iexact H8
  · simp only [before0_6 m c (t.val - 1) t (by omega), before0_7 m c (t.val - 1) t (by omega), before0_8 m c (t.val - 1) t (by omega)]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ _ _ (fun h => h0 (by have := (hcond0_0 t).mp h; omega)) (iblk m c 0 t) (iblk m c 1 t) (iblk m c 2 t) (iblk m c 3 t) (iblk m c 4 t) (codes m c) (scales m c) (hist m c)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexact H8
    isplitl [HS0]; · iexact HS0
    iintro ⟨H0, H1, H2, H3, H4, H5, H6, H7, H8, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves0_6 m c t); iexact H6
    isplitl [H7]; · iapply (leaves0_7 m c t); iexact H7
    iapply (leaves0_8 m c t); iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: every run of @main from zero counters ends, the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Gen
end
-- ==== Proof.Exponent.lean ====
module

public import proofs.«01_k».proof.Proof.Outs
public import Idealize.ShloMosaic.PureOps.Ideal

@[expose] public section

set_option maxRecDepth 16384

noncomputable section

namespace Cert.KernelIdeal.Gen

open Idealize.ShloMosaic Idealize.ShloMosaic.TcCoe

/-! ## The exponent over the extended reals -/

/-- The fields of the pattern with exponent field `k`. -/
theorem fields_of : ∀ k : Fin 256,
    ((Scalar.shli (BitVec.ofNat 32 k.val) 23#32).extractLsb' 23 8).toNat = k.val
      ∧ ((Scalar.shli (BitVec.ofNat 32 k.val) 23#32).extractLsb' 0 23).toNat = 0
      ∧ ((Scalar.shli (BitVec.ofNat 32 k.val) 23#32).extractLsb' 31 1 == 1#1) = false := by decide +kernel

/-- The pattern with exponent field `k`, from 1 to 254, is two to the `k - 127`. -/
theorem ofBits_field (k : ℕ) (h1 : 1 ≤ k) (h2 : k ≤ 254) :
    Ideal.ofBits .f32 (Scalar.shli (BitVec.ofNat 32 k) 23#32) = (((2 : ℝ) ^ ((k : ℤ) - 127) : ℝ) : EReal) := by
  obtain ⟨a, b, c⟩ := fields_of ⟨k, by omega⟩
  simp only at a b c
  show Ideal.ieee 8 23 _ = _
  unfold Ideal.ieee
  simp only [show (8 + 23 : ℕ) = 31 from rfl, a, b, c]
  rw [if_neg (by norm_num; omega), if_neg (by omega)]
  refine congrArg (fun r : ℝ => (r : EReal)) ?_
  rw [show ((k : ℤ) - (2 ^ (8 - 1) - 1) - (23 : ℕ)) = ((k : ℤ) - 127) - 23 by norm_num, zpow_sub₀ (by norm_num)]
  generalize (2 : ℝ) ^ ((k : ℤ) - 127) = p
  norm_num <;> ring

/-- The pattern with exponent field 255 is above every extended real but itself. -/
theorem ofBits_field_top (k : ℕ) (hk : k = 255) : Ideal.ofBits .f32 (Scalar.shli (BitVec.ofNat 32 k) 23#32) = ⊤ := by
  obtain ⟨a, b, c⟩ := fields_of ⟨k, by omega⟩
  simp only at a b c
  show Ideal.ieee 8 23 _ = _
  unfold Ideal.ieee
  simp only [show (8 + 23 : ℕ) = 31 from rfl, a, b, c]
  rw [if_pos (by norm_num; omega)]
  norm_num

/-- Powers of two, as the body writes them. -/
theorem pow2_eq (n : BitVec 32) (k : ℕ) (hn : n + 127#32 = BitVec.ofNat 32 k) (h1 : 1 ≤ k) (h2 : k ≤ 254) :
    pow2 (F := Ideal) n = (((2 : ℝ) ^ ((k : ℤ) - 127) : ℝ) : EReal) := by
  unfold pow2
  show Ideal.ofBits .f32 (Scalar.shli (n + 127#32) 23#32) = _
  rw [hn, ofBits_field k h1 h2]

/-- A step of the search moves from `j` to `j + b` exactly where `j + b` is not past `n`, the number of powers of two that `a` reaches. -/
theorem step_eq (a : EReal) (n : ℕ) (hn : n ≤ 254) (hP : ∀ k : ℕ, 1 ≤ k → k ≤ 254 → ((((2 : ℝ) ^ ((k : ℤ) - 127) : ℝ) : EReal) ≤ a ↔ k ≤ n))
    (ha : a ≠ ⊤) (j b : ℕ) (hb : 1 ≤ b) (hj : j + b ≤ 255) (kk : BitVec 32) (hk : kk = BitVec.ofNat 32 b - 127#32) :
    step (F := Ideal) a (BitVec.ofNat 32 b) kk (BitVec.ofNat 32 j) = BitVec.ofNat 32 (if j + b ≤ n then j + b else j) := by
  subst hk
  have e : BitVec.ofNat 32 j + (BitVec.ofNat 32 b - 127#32) + 127#32 = BitVec.ofNat 32 (j + b) := by
    rw [BitVec.add_assoc, BitVec.sub_add_cancel, BitVec.ofNat_add]
  have hc : Scalar.cmpf (F := Ideal) (φ := .f32) .oge a (pow2 (Scalar.addi (BitVec.ofNat 32 j) (BitVec.ofNat 32 b - 127#32)))
      = BitVec.ofBool (decide (j + b ≤ n)) := by
    show BitVec.ofBool (decide (_ ≤ a)) = _
    congr 1
    rw [decide_eq_decide]
    by_cases h : j + b ≤ 254
    · rw [show pow2 (F := Ideal) (Scalar.addi (BitVec.ofNat 32 j) (BitVec.ofNat 32 b - 127#32)) = _ from pow2_eq _ (j + b) e (by omega) h]
      exact hP (j + b) (by omega) h
    · have h5 : j + b = 255 := by omega
      unfold pow2
      show Ideal.ofBits .f32 (Scalar.shli (BitVec.ofNat 32 j + (BitVec.ofNat 32 b - 127#32) + 127#32) 23#32) ≤ a ↔ _
      rw [e, ofBits_field_top _ h5, top_le_iff]
      constructor
      · intro h'; exact absurd h' ha
      · intro h'; omega
  unfold step
  rw [hc]
  by_cases h : j + b ≤ n
  · rw [if_pos h, decide_eq_true h]
    show BitVec.ofNat 32 j + BitVec.ofNat 32 b = _
    rw [BitVec.ofNat_add]
  · rw [if_neg h, decide_eq_false h]
    rfl

/-- Eight steps, on the numbers. -/
def search (n : ℕ) : ℕ := [128, 64, 32, 16, 8, 4, 2, 1].foldl (fun j b => if j + b ≤ n then j + b else j) 0

/-- The eight steps find every number below 255. -/
theorem search_eq : ∀ n : Fin 255, search n.val = n.val := by decide +kernel

/-- The search finds the number of powers of two that the magnitude reaches. -/
theorem fieldOf_eq (v : EReal) (n : ℕ) (hn : n ≤ 254)
    (hP : ∀ k : ℕ, 1 ≤ k → k ≤ 254 → ((((2 : ℝ) ^ ((k : ℤ) - 127) : ℝ) : EReal) ≤ Scalar.absf (F := Ideal) (φ := .f32) v ↔ k ≤ n))
    (ha : Scalar.absf (F := Ideal) (φ := .f32) v ≠ ⊤) : fieldOf (F := Ideal) v = BitVec.ofNat 32 n := by
  have hs := search_eq ⟨n, by omega⟩
  simp only [search, List.foldl] at hs
  unfold fieldOf
  have b0 : (if 0 + 128 ≤ n then 0 + 128 else 0) ≤ 128 := by split <;> omega
  rw [show (0#32) = BitVec.ofNat 32 0 from rfl, step_eq _ n hn hP ha 0 128 (by omega) (by omega) _ (by decide)]
  generalize (if 0 + 128 ≤ n then 0 + 128 else 0) = j0 at b0 hs ⊢
  have b1 : (if j0 + 64 ≤ n then j0 + 64 else j0) ≤ 192 := by split <;> omega
  rw [step_eq _ n hn hP ha j0 64 (by omega) (by omega) _ (by decide)]
  generalize (if j0 + 64 ≤ n then j0 + 64 else j0) = j1 at b1 hs ⊢
  have b2 : (if j1 + 32 ≤ n then j1 + 32 else j1) ≤ 224 := by split <;> omega
  rw [step_eq _ n hn hP ha j1 32 (by omega) (by omega) _ (by decide)]
  generalize (if j1 + 32 ≤ n then j1 + 32 else j1) = j2 at b2 hs ⊢
  have b3 : (if j2 + 16 ≤ n then j2 + 16 else j2) ≤ 240 := by split <;> omega
  rw [step_eq _ n hn hP ha j2 16 (by omega) (by omega) _ (by decide)]
  generalize (if j2 + 16 ≤ n then j2 + 16 else j2) = j3 at b3 hs ⊢
  have b4 : (if j3 + 8 ≤ n then j3 + 8 else j3) ≤ 248 := by split <;> omega
  rw [step_eq _ n hn hP ha j3 8 (by omega) (by omega) _ (by decide)]
  generalize (if j3 + 8 ≤ n then j3 + 8 else j3) = j4 at b4 hs ⊢
  have b5 : (if j4 + 4 ≤ n then j4 + 4 else j4) ≤ 252 := by split <;> omega
  rw [step_eq _ n hn hP ha j4 4 (by omega) (by omega) _ (by decide)]
  generalize (if j4 + 4 ≤ n then j4 + 4 else j4) = j5 at b5 hs ⊢
  have b6 : (if j5 + 2 ≤ n then j5 + 2 else j5) ≤ 254 := by split <;> omega
  rw [step_eq _ n hn hP ha j5 2 (by omega) (by omega) _ (by decide)]
  generalize (if j5 + 2 ≤ n then j5 + 2 else j5) = j6 at b6 hs ⊢
  rw [step_eq _ n hn hP ha j6 1 (by omega) (by omega) _ (by decide), hs]

/-- The exponent of a field, from 0 to 254, as an integer. -/
def expInt (n : ℕ) : ℤ := if n = 0 then 0 else (n : ℤ) - 126

/-- The body's exponent word is that integer. -/
theorem expOf_eq : ∀ n : Fin 255, expOf (BitVec.ofNat 32 n.val) = BitVec.ofInt 32 (expInt n.val) := by decide +kernel

/-- The word the body's scale has in its exponent field. -/
theorem scale_word : ∀ n : Fin 254, BitVec.ofInt 32 (expInt n.val) + 127#32 = BitVec.ofNat 32 (if n.val = 0 then 127 else n.val + 1) := by decide +kernel

/-- The word the inverse of the body's scale has in its exponent field. -/
theorem inv_word : ∀ n : Fin 253, (0#32 - BitVec.ofInt 32 (expInt n.val)) + 127#32 = BitVec.ofNat 32 (if n.val = 0 then 127 else 253 - n.val) := by decide +kernel

/-- The scale is two to the exponent. -/
theorem pow2_expInt (n : ℕ) (hn : n ≤ 252) : pow2 (F := Ideal) (BitVec.ofInt 32 (expInt n)) = (((2 : ℝ) ^ (expInt n) : ℝ) : EReal) := by
  rw [pow2_eq _ _ (scale_word ⟨n, by omega⟩) (by simp only; split <;> omega) (by simp only; split <;> omega)]
  unfold expInt
  simp only
  refine congrArg (fun r : ℝ => (r : EReal)) (congrArg (fun e : ℤ => (2 : ℝ) ^ e) ?_)
  split
  · rfl
  · push_cast; ring

/-- The inverse of the scale is two to the negated exponent. -/
theorem pow2_neg_expInt (n : ℕ) (hn : n ≤ 252) :
    pow2 (F := Ideal) (0#32 - BitVec.ofInt 32 (expInt n)) = (((2 : ℝ) ^ (-(expInt n)) : ℝ) : EReal) := by
  rw [pow2_eq _ _ (inv_word ⟨n, by omega⟩) (by simp only; split <;> omega) (by simp only; split <;> omega)]
  unfold expInt
  simp only
  refine congrArg (fun r : ℝ => (r : EReal)) (congrArg (fun e : ℤ => (2 : ℝ) ^ e) ?_)
  split
  · rfl
  · omega

/-- For a magnitude below two to the 126 the powers of two it reaches are the first `n`, with `n` at most 252. -/
theorem exists_count (a : EReal) (ha : a < (((2 : ℝ) ^ (126 : ℤ) : ℝ) : EReal)) :
    ∃ n : ℕ, n ≤ 252 ∧ ∀ k : ℕ, 1 ≤ k → k ≤ 254 → ((((2 : ℝ) ^ ((k : ℤ) - 127) : ℝ) : EReal) ≤ a ↔ k ≤ n) := by
  classical
  have mono : ∀ k l : ℕ, k ≤ l → (((2 : ℝ) ^ ((k : ℤ) - 127) : ℝ) : EReal) ≤ (((2 : ℝ) ^ ((l : ℤ) - 127) : ℝ) : EReal) := by
    intro k l h
    exact EReal.coe_le_coe_iff.mpr (zpow_le_zpow_right₀ (by norm_num) (by omega))
  have hex : ∃ k : ℕ, ¬ ((((2 : ℝ) ^ (((k + 1 : ℕ) : ℤ) - 127) : ℝ) : EReal) ≤ a) := ⟨252, not_le.mpr (by simpa using ha)⟩
  refine ⟨Nat.find hex, Nat.find_min' hex (not_le.mpr (by simpa using ha)), fun k h1 h2 => ⟨fun h => ?_, fun h => ?_⟩⟩
  · by_contra hlt
    exact Nat.find_spec hex ((mono _ _ (by omega)).trans h)
  · have := Nat.find_min hex (m := k - 1) (by omega)
    rw [not_not, show k - 1 + 1 = k by omega] at this
    exact this

/-- The number of powers of two reached, counted over all 254 of them. -/
theorem count_eq (a : EReal) (n : ℕ) (hn : n ≤ 252) (hP : ∀ k : ℕ, 1 ≤ k → k ≤ 254 → ((((2 : ℝ) ^ ((k : ℤ) - 127) : ℝ) : EReal) ≤ a ↔ k ≤ n)) :
    (List.finRange 254).foldl (fun (r : BitVec 32) (k : Fin 254) =>
      r + (BitVec.ofBool (decide ((((2 : ℝ) ^ ((k.val : ℤ) - 126) : ℝ) : EReal) ≤ a))).setWidth 32) 0#32 = BitVec.ofNat 32 n := by
  have hc : ∀ m : Fin 253, (List.finRange 254).foldl (fun (r : BitVec 32) (k : Fin 254) => r + (BitVec.ofBool (decide (k.val + 1 ≤ m.val))).setWidth 32) 0#32
      = BitVec.ofNat 32 m.val := by decide +kernel
  rw [← hc ⟨n, by omega⟩]
  congr 1
  funext r k
  have hk := k.isLt
  have e := hP (k.val + 1) (by omega) (by omega)
  rw [show ((k.val + 1 : ℕ) : ℤ) - 127 = (k.val : ℤ) - 126 by push_cast; ring] at e
  rw [decide_eq_decide.mpr e]

end Cert.KernelIdeal.Gen
end
-- ==== Proof.RValue.lean ====
module

public import proofs.«01_k».proof.Proof.Gen.ReferenceIdeal.Value
public import Idealize.ShloMosaic.Lib.Pipeline.ValueKit
public import Idealize.ShloMosaic.Lib.StableHlo.ReadAt
public import Idealize.ShloMosaic.Lib.Claim

@[expose] public section

set_option maxRecDepth 16384

noncomputable section

namespace Cert.ReferenceIdeal.Gen

open Idealize.ShloMosaic Idealize.ShloMosaic.TcCoe Idealize.ShloMosaic.Tactic Idealize.SL.Sem
open Idealize.ShloMosaic.Pipeline (Dat Cfg Window)

variable {F : FTy → Type} [FloatOps F]
variable (m : (ℓ : Loc nD τ sig) → Buf (Elt F) ℓ) (ρ : Dev nD → PrngReg)

/-! ## What the reference's host operations hand to its region -/

/-- The largest of the 16 recorded maxima. -/
def amaxR (a1 : Vec F S16 .f32) : F .f32 := Host.reduce FloatOps.maximumf a1 (constant S_ FTy.f32 0xFF800000#32) reducesTo_S16_S_d0 h_S_ ValueIdx.ix0

/-- The magnitude of that maximum divided by 448. -/
def magR (a1 : Vec F S16 .f32) : F .f32 := FloatOps.hostAbsf (FloatOps.mulf (amaxR a1) (FloatOps.ofBits FTy.f32 0x3B124925#32))

/-- How many of the powers of two from 2 to the -126 up to 2 to the 127 are at most the magnitude. -/
def countR (a1 : Vec F S16 .f32) : BitVec 32 :=
  Finset.fold IntOp.addi (0#32) (fun x : Fin 254 => BitVec.setWidth 32 (FloatOps.cmpf CmpFPredicate.ole
    (FloatOps.hostPowf (FloatOps.ofBits FTy.f32 0x40000000#32) (FloatOps.sitofp FTy.f32 (IntOp.addi (4294967170#32) (BitVec.ofNat 32 x.val))))
    (magR a1))) Finset.univ

/-- The exponent of the scale, as a float. -/
def expR (a1 : Vec F S16 .f32) : F .f32 :=
  FloatOps.sitofp FTy.f32 (Scalar.select (IntOp.cmpi CmpIPredicate.eq (countR a1) 0#32) (0#32) (IntOp.subi (countR a1) 126#32))

/-- The scale. -/
def scaleR (a1 : Vec F S16 .f32) : F .f32 := FloatOps.hostPowf (FloatOps.ofBits FTy.f32 0x40000000#32) (expR a1)

/-- Its inverse. -/
def invR (a1 : Vec F S16 .f32) : F .f32 := FloatOps.hostPowf (FloatOps.ofBits FTy.f32 0x40000000#32) (FloatOps.hostNegf (expR a1))

/-- The largest magnitude of the activations. -/
def newR (a0 : Vec F S3x512x1536 .bf16) : F .f32 :=
  Host.reduce FloatOps.maximumf (Host.absf (extf FTy.f32 a0 bitsLt_bf16_f32)) (constant S_ FTy.f32 0xFF800000#32) reducesTo_S3x512x1536_S_d0_1_2 h_S_ ValueIdx.ix0

/-- The dense weights' bytes: byte `(r, k)` is the first value byte of its group of four where the first position is `k % 4`, the second where
    the second position is, and zero elsewhere. -/
def weightR (a2 : Vec F S8960x768 .i8) (a3 : Vec F S8960x48 .i32) (r : Fin 8960) (k : Fin 1536) : BitVec 8 :=
  Scalar.select
    (IntOp.cmpi CmpIPredicate.eq
      (IntOp.andi (IntOp.shrsi ArithUnit.host (a3 (ValueIdx.ix2 r ⟨k.val / 32, by omega⟩)) (IntOp.muli (4#32) (BitVec.ofNat 32 (k.val / 4 % 8)))) 3#32)
      (BitVec.ofNat 32 (k.val % 4)))
    (a2 (ValueIdx.ix2 r ⟨k.val / 32 * 16 + k.val / 4 % 8 * 2, by omega⟩))
    (Scalar.select
      (IntOp.cmpi CmpIPredicate.eq
        (IntOp.andi (IntOp.shrsi ArithUnit.host (a3 (ValueIdx.ix2 r ⟨k.val / 32, by omega⟩))
          (IntOp.addi (IntOp.muli (4#32) (BitVec.ofNat 32 (k.val / 4 % 8))) 2#32)) 3#32)
        (BitVec.ofNat 32 (k.val % 4)))
      (a2 (ValueIdx.ix2 r ⟨k.val / 32 * 16 + k.val / 4 % 8 * 2 + 1, by omega⟩))
      0#8)

/-- The scale that the reference returns. -/
theorem V_scale (c : Dev nD) (z : Fin 1) : V m c main_v64 (ValueIdx.ix1 z) = scaleR (m ((c : Thread nD τ).loc main_arg1)) := by
  unfold V
  after_reads_at
  rfl

/-- The scale that its region reads. -/
theorem V_scale2 (c : Dev nD) (a b : Fin 1) : V m c main_v66 (ValueIdx.ix2 a b) = scaleR (m ((c : Thread nD τ).loc main_arg1)) := by
  unfold V
  after_reads_at
  rfl

/-- The inverse that its region reads. -/
theorem V_inv (c : Dev nD) (a b : Fin 1) : V m c main_v67 (ValueIdx.ix2 a b) = invR (m ((c : Thread nD τ).loc main_arg1)) := by
  unfold V
  after_reads_at
  rfl

/-- The activations that its region reads. -/
theorem V_x (c : Dev nD) (i k : Fin 1536) : V m c main_v65 (ValueIdx.ix2 i k)
    = m ((c : Thread nD τ).loc main_arg0) (ValueIdx.ix3 ⟨i.val / 512, by omega⟩ ⟨i.val % 512, by omega⟩ k) := by
  unfold V
  after_reads_at
  rfl

/-- The weights' bytes that its region reads. -/
theorem V_w (c : Dev nD) (r : Fin 8960) (k : Fin 1536) : V m c main_v68 (ValueIdx.ix2 r k)
    = weightR (m ((c : Thread nD τ).loc main_arg2)) (m ((c : Thread nD τ).loc main_arg3)) r k := by
  unfold V
  after_reads_at
  rfl

/-- The weight scales that its region reads. -/
theorem V_ws (c : Dev nD) (z : Fin 1) (r : Fin 8960) : V m c main_v69 (ValueIdx.ix2 z r) = m ((c : Thread nD τ).loc main_arg4) (ValueIdx.ix1 r) := by
  unfold V
  after_reads_at
  rfl

/-- The record of maxima that the reference returns. -/
theorem V_hist (c : Dev nD) (r : Fin 16) : V m c main_v63 (ValueIdx.ix1 r)
    = if h : r.val < 1 then newR (m ((c : Thread nD τ).loc main_arg0)) else m ((c : Thread nD τ).loc main_arg1) (ValueIdx.ix1 ⟨r.val - 1, by omega⟩) := by
  unfold V
  after_reads_at
  rfl

end Cert.ReferenceIdeal.Gen
end
-- ==== Proof.Scale.lean ====
module

public import proofs.«01_k».proof.Proof.Exponent
public import proofs.«01_k».proof.Proof.RValue
public import Idealize.ShloMosaic.PureOps.Reduce
public import Idealize.ShloMosaic.PureOps.Ideal

@[expose] public section

set_option maxRecDepth 16384

noncomputable section

namespace Cert.Meet

open Idealize.ShloMosaic Idealize.ShloMosaic.TcCoe
open Cert.KernelIdeal.Gen (amaxOf exponentOf scaleOf fieldOf expInt pow2 wordAt)
open Cert.ReferenceIdeal.Gen (amaxR magR countR expR scaleR invR)

/-! ## The scale of both programs, over the extended reals -/

/-- The reciprocal of 448, as both programs write it. -/
def recip : EReal := Ideal.ofBits .f32 0x3B124925#32

/-- The reciprocal is a real number between 0 and 1/256. -/
theorem recip_eq : recip = ((9586981 / 2 ^ 32 : ℝ) : EReal) := by
  unfold recip
  simp [Ideal.ofBits, Ideal.ieee, -EReal.coe_mul]
  try norm_num

/-- The largest finite 32-bit float. -/
theorem largest_eq : Ideal.ofBits .f32 0x7F7FFFFF#32 = (((2 ^ 24 - 1) * 2 ^ 104 : ℝ) : EReal) := by
  simp [Ideal.ofBits, Ideal.ieee, -EReal.coe_mul]
  try norm_num

/-- Two. -/
theorem two_eq : Ideal.ofBits .f32 0x40000000#32 = ((2 : ℝ) : EReal) := by
  simp [Ideal.ofBits, Ideal.ieee, -EReal.coe_mul]
  try norm_num

/-- The start of a maximum. -/
theorem bottom_eq : Ideal.ofBits .f32 0xFF800000#32 = ⊥ := by
  simp [Ideal.ofBits, Ideal.ieee, -EReal.coe_mul]
  try norm_num

/-- A maximum over an array is at most `b` exactly where every element is. -/
theorem reduce_max_le {s t u : Shape} {axes : List (Fin s.rank)} (x : FVec Ideal s .f32) (h : s.ReducesTo axes t) (hu : 0 < u.numel) [Subsingleton t.Idx]
    (j : t.Idx) (b : EReal) :
    Host.reduce FloatOps.maximumf x (constant (F := Ideal) u .f32 0xFF800000#32) h hu j ≤ b ↔ ∀ i, (x i : EReal) ≤ b := by
  have e : Host.reduce FloatOps.maximumf x (constant (F := Ideal) u .f32 0xFF800000#32) h hu j
      = Host.reduce (fun a b : EReal => max a b) x (fun _ => Ideal.ofBits .f32 0xFF800000#32) h hu j := rfl
  rw [e, Host.reduce_eq_fold, Finset.fold_max_le, bottom_eq]
  constructor
  · intro hh i
    exact hh.2 i (Finset.mem_filter.mpr ⟨Finset.mem_univ _, Subsingleton.elim _ _⟩)
  · intro hh
    exact ⟨bot_le, fun i _ => hh i⟩

/-- The kernel's largest recorded maximum over 448 is the reference's. -/
theorem amax_eq (a1 : Vec Ideal Cert.KernelIdeal.S16 .f32) : amaxOf (F := Ideal) a1 = (amaxR (F := Ideal) a1 : EReal) * recip := by
  show max (max (max (max (max (max (max (max (max (max (max (max (max (max (max (wordAt a1 0 _ : EReal) (wordAt a1 1 _)) (wordAt a1 2 _)) (wordAt a1 3 _)) (wordAt a1 4 _)) (wordAt a1 5 _)) (wordAt a1 6 _)) (wordAt a1 7 _)) (wordAt a1 8 _)) (wordAt a1 9 _)) (wordAt a1 10 _)) (wordAt a1 11 _)) (wordAt a1 12 _)) (wordAt a1 13 _)) (wordAt a1 14 _)) (wordAt a1 15 _) * recip = _
  refine congrArg (· * recip) (eq_of_forall_ge_iff fun b => ?_)
  unfold amaxR
  haveI : Subsingleton (Shape.Idx ⟨0, ![]⟩) := ⟨fun x y => funext fun a => a.elim0⟩
  rw [reduce_max_le]
  simp only [max_le_iff]
  constructor
  · rintro h i
    have hi : ∀ k : Fin 16, (a1 (ValueIdx.ix1 k) : EReal) ≤ b := by
      intro k
      fin_cases k <;> simp only [wordAt] at h <;> tauto
    rw [show i = ValueIdx.ix1 (i 0) from funext fun a => match a with | 0 => rfl]
    exact hi _
  · intro h
    simp only [wordAt, h, and_self]

/-- Where every recorded maximum is finite, so is the largest. -/
theorem amax_real (a1 : Vec Ideal Cert.KernelIdeal.S16 .f32) (h : ∀ i, max (a1 i : EReal) (-(a1 i : EReal)) ≤ Ideal.ofBits .f32 0x7F7FFFFF#32) :
    ∃ r : ℝ, (amaxR (F := Ideal) a1 : EReal) = (r : EReal) ∧ |r| ≤ (2 ^ 24 - 1) * 2 ^ 104 := by
  rw [largest_eq] at h
  obtain ⟨L, hL⟩ : ∃ L : ℝ, L = (2 ^ 24 - 1) * 2 ^ 104 := ⟨_, rfl⟩
  rw [← hL] at h ⊢
  haveI : Subsingleton (Shape.Idx ⟨0, ![]⟩) := ⟨fun x y => funext fun a => a.elim0⟩
  have hle : (amaxR (F := Ideal) a1 : EReal) ≤ (L : EReal) := by
    unfold amaxR
    rw [reduce_max_le]
    exact fun i => (le_max_left _ _).trans (h i)
  have hge : ((-L : ℝ) : EReal) ≤ (amaxR (F := Ideal) a1 : EReal) := by
    have h0 : (a1 (ValueIdx.ix1 0) : EReal) ≤ amaxR (F := Ideal) a1 := by
      unfold amaxR
      exact (reduce_max_le _ _ _ _ _).mp le_rfl _
    refine le_trans ?_ h0
    rw [EReal.coe_neg]
    exact EReal.neg_le_of_neg_le ((le_max_right _ _).trans (h _))
  generalize (amaxR (F := Ideal) a1 : EReal) = M at hle hge ⊢
  induction M using EReal.rec with
  | bot => exact absurd hge (not_le.mpr (EReal.bot_lt_coe _))
  | top => exact absurd hle (not_le.mpr (EReal.coe_lt_top _))
  | coe r => exact ⟨r, rfl, abs_le.mpr ⟨EReal.coe_le_coe_iff.mp hge, EReal.coe_le_coe_iff.mp hle⟩⟩

/-- The reference's magnitude is the magnitude that the kernel searches. -/
theorem mag_eq (a1 : Vec Ideal Cert.KernelIdeal.S16 .f32) :
    (magR (F := Ideal) a1 : EReal) = Scalar.absf (F := Ideal) (φ := .f32) (amaxOf (F := Ideal) a1) := by
  rw [amax_eq]
  rfl

/-- The magnitude is below two to the 126. -/
theorem mag_lt (a1 : Vec Ideal Cert.KernelIdeal.S16 .f32) (h : ∀ i, max (a1 i : EReal) (-(a1 i : EReal)) ≤ Ideal.ofBits .f32 0x7F7FFFFF#32) :
    (magR (F := Ideal) a1 : EReal) < (((2 : ℝ) ^ (126 : ℤ) : ℝ) : EReal) := by
  obtain ⟨r, hr, hb⟩ := amax_real a1 h
  rw [mag_eq, amax_eq, hr, recip_eq]
  show max _ (-_) < _
  rw [← EReal.coe_mul, ← EReal.coe_neg]
  have hb2 := abs_le.mp hb
  have p : (9586981 / 2 ^ 32 : ℝ) ≤ 1 / 2 ^ 8 := by norm_num
  have q : (0 : ℝ) ≤ 9586981 / 2 ^ 32 := by norm_num
  have hm : |r * (9586981 / 2 ^ 32)| ≤ ((2 ^ 24 - 1) * 2 ^ 104) * (1 / 2 ^ 8) := by
    rw [abs_mul, abs_of_nonneg q]
    exact mul_le_mul hb p q (by norm_num)
  have hl : (((2 ^ 24 - 1) * 2 ^ 104) * (1 / 2 ^ 8) : ℝ) < (2 : ℝ) ^ (126 : ℤ) := by norm_num
  have h1 := abs_le.mp hm
  refine max_lt (EReal.coe_lt_coe_iff.mpr ?_) (EReal.coe_lt_coe_iff.mpr ?_)
  · exact lt_of_le_of_lt h1.2 hl
  · exact lt_of_le_of_lt (by linarith [h1.1]) hl

/-- Two to an integer, as the reference computes it. -/
theorem pow_two (z : ℤ) : FloatOps.hostPowf (F := Ideal) (φ := .f32) (FloatOps.ofBits .f32 0x40000000#32) (((z : ℝ) : EReal) : Ideal .f32)
    = (((2 : ℝ) ^ z : ℝ) : EReal) := by
  show Ideal.pow (Ideal.ofBits .f32 0x40000000#32) _ = _
  rw [two_eq, Ideal.pow_coe_coe]
  exact congrArg (fun r : ℝ => (r : EReal)) (Real.rpow_intCast 2 z)

/-- The exponents that the reference tries. -/
theorem tried : ∀ k : Fin 254, (IntOp.addi (4294967170#32) (BitVec.ofNat 32 k.val)).toInt = (k.val : ℤ) - 126 := by decide +kernel

/-- The exponent word that the reference takes from a count. -/
theorem taken : ∀ n : Fin 253, (Scalar.select (IntOp.cmpi CmpIPredicate.eq (BitVec.ofNat 32 n.val) 0#32) (0#32) (IntOp.subi (BitVec.ofNat 32 n.val) 126#32)).toInt
    = expInt n.val := by decide +kernel

/-- A sum over all positions is the sum taken position by position. -/
theorem fold_all (f : Fin 254 → BitVec 32) :
    Finset.fold IntOp.addi 0#32 f Finset.univ = (List.finRange 254).foldl (fun r k => r + f k) 0#32 := by
  unfold Finset.fold
  rw [Fin.univ_def]
  simp only [Multiset.map_coe, Multiset.coe_fold_l, List.foldl_map]
  rfl

/-- The reference's count. -/
theorem count_meet (a1 : Vec Ideal Cert.KernelIdeal.S16 .f32) (n : ℕ) (hn : n ≤ 252)
    (hP : ∀ k : ℕ, 1 ≤ k → k ≤ 254 → ((((2 : ℝ) ^ ((k : ℤ) - 127) : ℝ) : EReal) ≤ (magR (F := Ideal) a1 : EReal) ↔ k ≤ n)) :
    countR (F := Ideal) a1 = BitVec.ofNat 32 n := by
  unfold countR
  rw [fold_all, ← Cert.KernelIdeal.Gen.count_eq _ n hn hP]
  congr 1
  funext r k
  congr 1
  rw [show FloatOps.sitofp (F := Ideal) FTy.f32 (IntOp.addi (4294967170#32) (BitVec.ofNat 32 k.val))
    = ((((IntOp.addi (4294967170#32) (BitVec.ofNat 32 k.val)).toInt : ℝ) : EReal) : Ideal .f32) from rfl, tried k, pow_two]
  rfl

/-- Under finite recorded maxima the two scales are equal, and so are their inverses. -/
theorem scale_meet (a1 : Vec Ideal Cert.KernelIdeal.S16 .f32) (h : ∀ i, max (a1 i : EReal) (-(a1 i : EReal)) ≤ Ideal.ofBits .f32 0x7F7FFFFF#32) :
    scaleOf (F := Ideal) a1 = scaleR (F := Ideal) a1 ∧ pow2 (F := Ideal) (Scalar.subi 0#32 (exponentOf (F := Ideal) a1)) = invR (F := Ideal) a1 := by
  obtain ⟨n, hn, hP⟩ := Cert.KernelIdeal.Gen.exists_count _ (mag_lt a1 h)
  have hc := count_meet a1 n hn hP
  have hf : exponentOf (F := Ideal) a1 = BitVec.ofInt 32 (expInt n) := by
    unfold exponentOf
    rw [Cert.KernelIdeal.Gen.fieldOf_eq (amaxOf (F := Ideal) a1) n (by omega)]
    · exact Cert.KernelIdeal.Gen.expOf_eq ⟨n, by omega⟩
    · rw [← mag_eq]; exact hP
    · rw [← mag_eq]; exact ne_top_of_lt (mag_lt a1 h)
  have he : expR (F := Ideal) a1 = (((expInt n : ℝ) : EReal) : Ideal .f32) := by
    unfold expR
    rw [hc, ← taken ⟨n, by omega⟩]
    rfl
  constructor
  · unfold scaleOf scaleR
    rw [hf, Cert.KernelIdeal.Gen.pow2_expInt n hn, he, pow_two]
  · unfold invR
    rw [hf, he, show FloatOps.hostNegf (F := Ideal) (((expInt n : ℝ) : EReal) : Ideal .f32) = ((((-(expInt n) : ℤ) : ℝ) : EReal) : Ideal .f32) by
      show -((expInt n : ℝ) : EReal) = _
      rw [← EReal.coe_neg, Int.cast_neg], pow_two]
    exact Cert.KernelIdeal.Gen.pow2_neg_expInt n hn

end Cert.Meet
end
-- ==== Proof.Bytes.lean ====
module

public import proofs.«01_k».proof.Proof.Weight
public import Idealize.ShloMosaic.Lib.BitcastFour
public import Idealize.ShloMosaic.Lib.ValueLayout

@[expose] public section

set_option maxRecDepth 16384

noncomputable section

namespace Cert.KernelIdeal.Gen

open Idealize.ShloMosaic Idealize.ShloMosaic.TcCoe

variable {F : FTy → Type} [FloatOps F]

/-! ## One byte of a decoded word -/

/-- A byte widened and shifted by `8·p` bits, read at bit `i` of byte `j`: the byte's own bit where `p = j`, no bit elsewhere. -/
theorem byte_shift (v : BitVec 8) (p j i : ℕ) (hp : p < 4) (hj : j < 4) (hi : i < 8) :
    ((v.setWidth 32) <<< (8 * p)).getLsbD (8 * j + i) = (decide (p = j) && v.getLsbD i) := by
  rw [BitVec.getLsbD_shiftLeft, BitVec.getLsbD_setWidth]
  rcases lt_trichotomy p j with h | h | h
  · rw [BitVec.getLsbD_of_ge v _ (by omega), decide_eq_false (by omega : ¬ p = j)]
    simp
  · subst h
    rw [show 8 * p + i - 8 * p = i by omega, decide_eq_true (by omega : 8 * p + i < 32), decide_eq_false (by omega : ¬ 8 * p + i < 8 * p),
      decide_eq_true (by omega : i < 32)]
    simp
  · rw [decide_eq_false (by omega : ¬ p = j), decide_eq_true (by omega : 8 * j + i < 8 * p)]
    simp

/-- The word that holds the byte `v0` at place `p0` and the byte `v1` at place `p1`, read at byte `j`. -/
theorem byte_of_two (v0 v1 : BitVec 8) (p0 p1 j : ℕ) (h0 : p0 < 4) (h1 : p1 < 4) (hj : j < 4) (hne : p0 ≠ p1) :
    (((v0.setWidth 32) <<< (8 * p0) ||| (v1.setWidth 32) <<< (8 * p1)) >>> (8 * j)).setWidth 8
      = if p0 = j then v0 else if p1 = j then v1 else 0#8 := by
  apply BitVec.eq_of_getLsbD_eq
  intro i hi
  rw [BitVec.getLsbD_setWidth, BitVec.getLsbD_ushiftRight, BitVec.getLsbD_or, byte_shift v0 p0 j i h0 hj hi, byte_shift v1 p1 j i h1 hj hi,
    decide_eq_true hi, Bool.true_and]
  by_cases e0 : p0 = j
  · rw [if_pos e0, decide_eq_true e0, decide_eq_false (by omega : ¬ p1 = j)]
    simp
  · rw [if_neg e0, decide_eq_false e0]
    by_cases e1 : p1 = j
    · rw [if_pos e1, decide_eq_true e1]; simp
    · rw [if_neg e1, decide_eq_false e1]; simp

/-- The first position's shift amount: eight times the low two bits. -/
theorem first_amount (t : BitVec 32) : ((t <<< 3) &&& 24#32) = (t &&& 3#32) <<< 3 := by
  apply BitVec.eq_of_getLsbD_eq
  intro i hi
  have h24 : (24#32 : BitVec 32).getLsbD i = decide (i = 3 ∨ i = 4) := by interval_cases i <;> rfl
  have h3 : ∀ k < 32, (3#32 : BitVec 32).getLsbD k = decide (k = 0 ∨ k = 1) := by
    intro k hk; interval_cases k <;> rfl
  simp only [BitVec.getLsbD_and, BitVec.getLsbD_shiftLeft, h24, h3 (i - 3) (by omega)]
  rcases Nat.lt_or_ge i 3 with h | h
  · simp [h]
  · have e : (i = 3 ∨ i = 4) ↔ (i - 3 = 0 ∨ i - 3 = 1) := by omega
    simp only [decide_eq_decide.mpr e, Bool.and_assoc]

/-- The second position's shift amount: eight times the next two bits. -/
theorem second_amount (t : BitVec 32) : ((t <<< 1) &&& 24#32) = ((t >>> 2) &&& 3#32) <<< 3 := by
  apply BitVec.eq_of_getLsbD_eq
  intro i hi
  have h24 : (24#32 : BitVec 32).getLsbD i = decide (i = 3 ∨ i = 4) := by interval_cases i <;> rfl
  have h3 : ∀ k < 32, (3#32 : BitVec 32).getLsbD k = decide (k = 0 ∨ k = 1) := by
    intro k hk; interval_cases k <;> rfl
  simp only [BitVec.getLsbD_and, BitVec.getLsbD_shiftLeft, BitVec.getLsbD_ushiftRight, h24, h3 (i - 3) (by omega)]
  rcases Nat.lt_or_ge i 3 with h | h
  · have e : ¬ (i = 3 ∨ i = 4) := by omega
    simp [h, e]
  · have e : (i = 3 ∨ i = 4) ↔ (i - 3 = 0 ∨ i - 3 = 1) := by omega
    simp only [decide_eq_decide.mpr e, Bool.and_assoc, show 2 + (i - 3) = i - 1 by omega]
    have h1 : ¬ i < 1 := by omega
    have h3 : ¬ i < 3 := by omega
    simp [h1, h3]

/-- Two bits taken after an arithmetic shift are those taken after a logical one, below the top. -/
theorem two_bits (x : BitVec 32) (n : ℕ) (hn : n ≤ 30) : (x.sshiftRight n) &&& 3#32 = (x >>> n) &&& 3#32 := by
  apply BitVec.eq_of_getLsbD_eq
  intro i hi
  have h3 : (3#32 : BitVec 32).getLsbD i = decide (i = 0 ∨ i = 1) := by interval_cases i <;> rfl
  simp only [BitVec.getLsbD_and, BitVec.getLsbD_sshiftRight, BitVec.getLsbD_ushiftRight, h3]
  by_cases h : i = 0 ∨ i = 1
  · have : n + i < 32 := by omega
    simp [h, this]
    omega
  · simp [h]

/-- A word of two bits is below four. -/
theorem two_bits_lt (x : BitVec 32) : (x &&& 3#32).toNat < 4 := by
  rw [BitVec.toNat_and]
  exact Nat.lt_succ_of_le Nat.and_le_right

/-- The shift amount of a two-bit word. -/
theorem amount_toNat (x : BitVec 32) : ((x &&& 3#32) <<< 3).toNat = 8 * (x &&& 3#32).toNat := by
  have := two_bits_lt x
  rw [BitVec.toNat_shiftLeft, Nat.shiftLeft_eq]
  omega

/-- The byte that the body decodes at place `j` of a group of four, from the group's two value bytes in the low bytes of the halves of `w`
    and the index word shifted to the group. -/
def decoded (w t : BitVec 32) : BitVec 32 :=
  IntOp.ori (IntOp.shli .vector (IntOp.andi w 255#32) (IntOp.andi (IntOp.shli .vector t 3#32) 24#32))
    (IntOp.shli .vector (IntOp.andi (IntOp.shrui .vector w 16#32) 255#32) (IntOp.andi (IntOp.shli .vector t 1#32) 24#32))

/-- The word a pair of value bytes makes, widened by sign to 16 bits. -/
theorem decoded_byte (w x : BitVec 32) (v0 v1 : BitVec 8) (q j : ℕ) (hq : q < 8) (hj : j < 4)
    (hw0 : IntOp.andi w 255#32 = v0.setWidth 32) (hw1 : IntOp.andi (IntOp.shrui .vector w 16#32) 255#32 = v1.setWidth 32)
    (hne : (x >>> (4 * q)) &&& 3#32 ≠ (x >>> (4 * q + 2)) &&& 3#32) :
    ((decoded w (x >>> (4 * q))) >>> (8 * j)).setWidth 8
      = if ((x >>> (4 * q)) &&& 3#32).toNat = j then v0 else if ((x >>> (4 * q + 2)) &&& 3#32).toNat = j then v1 else 0#8 := by
  have e1 : (x >>> (4 * q)) >>> 2 = x >>> (4 * q + 2) := by rw [BitVec.shiftRight_add]
  unfold decoded
  rw [hw0, hw1]
  unfold IntOp.shli IntOp.ori IntOp.andi
  rw [if_pos (by decide : (3#32 : BitVec 32).toNat < 32), if_pos (by decide : (1#32 : BitVec 32).toNat < 32)]
  rw [show (x >>> (4 * q)) <<< (3#32 : BitVec 32) = (x >>> (4 * q)) <<< 3 from rfl,
    show (x >>> (4 * q)) <<< (1#32 : BitVec 32) = (x >>> (4 * q)) <<< 1 from rfl, first_amount, second_amount, e1]
  have a0 := amount_toNat (x >>> (4 * q))
  have a1 := amount_toNat (x >>> (4 * q + 2))
  have l0 := two_bits_lt (x >>> (4 * q))
  have l1 := two_bits_lt (x >>> (4 * q + 2))
  rw [if_pos (by omega), if_pos (by omega), BitVec.shiftLeft_eq', BitVec.shiftLeft_eq', a0, a1]
  exact byte_of_two v0 v1 _ _ j l0 l1 hj fun h => hne (BitVec.eq_of_toNat_eq h)

end Cert.KernelIdeal.Gen
end
-- ==== Proof.Decode.lean ====
module

public import proofs.«01_k».proof.Proof.Bytes
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic

variable {F : FTy → Type} [FloatOps F]

/-! ## The dense weights the body decodes, one at a time -/

/-- Words read as bytes: byte `a % 4` of the word in row `a / 4`. -/
theorem bitcast_32_8_ix2 {R r n : ℕ} (x : (⟨2, ![r, n]⟩ : Shape).Idx → BitVec 32) (h : (⟨2, ![r, n]⟩ : Shape).Bitcasts 32 ⟨2, ![R, n]⟩ 8)
    (a : Fin R) (l : Fin n) (p : Fin r) (hp : p.val = a.val / 4) :
    bitcast ⟨2, ![R, n]⟩ 8 x h (ValueIdx.ix2 a l) = ((x (ValueIdx.ix2 p l)) >>> (8 * (a.val % 4))).setWidth 8 := by
  apply BitVec.eq_of_getLsbD_eq
  intro q hq
  have hr : (⟨2, ![R, n]⟩ : Shape).row (ValueIdx.ix2 a l) = a.val := rfl
  rw [bitcast_getLsbD x h _ q hq (by decide), BitVec.getLsbD_setWidth, BitVec.getLsbD_ushiftRight, decide_eq_true hq, Bool.true_and]
  congr 1
  · congr 1
    funext c
    match c with
    | ⟨0, _⟩ => exact Fin.ext ((h.srcIdx_row _ _ _ ⟨0, Nat.zero_lt_two⟩ rfl).trans (by rw [hr, hp]; omega))
    | ⟨1, _⟩ => exact Fin.ext (h.srcIdx_other _ _ _ ⟨1, Nat.one_lt_two⟩ (by show ¬ 1 + 2 = 2; omega))
  · rw [hr]; omega

/-- Halves read as words, at rank 2: the word in row `a` is made of rows `2·a` and `2·a + 1`, the first in the low half. -/
theorem bitcast_16_32_ix2 {R r n : ℕ} (x : (⟨2, ![R, n]⟩ : Shape).Idx → BitVec 16) (h : (⟨2, ![R, n]⟩ : Shape).Bitcasts 16 ⟨2, ![r, n]⟩ 32)
    (a : Fin r) (l : Fin n) (q : ℕ) (hq : q < 32) (p : Fin R) (hp : p.val = 2 * a.val + q / 16) :
    (bitcast ⟨2, ![r, n]⟩ 32 x h (ValueIdx.ix2 a l)).getLsbD q = (x (ValueIdx.ix2 p l)).getLsbD (q % 16) := by
  have hr : (⟨2, ![r, n]⟩ : Shape).row (ValueIdx.ix2 a l) = a.val := rfl
  rw [bitcast_getLsbD x h _ q hq (by decide)]
  congr 1
  · congr 1
    funext c
    match c with
    | ⟨0, _⟩ => exact Fin.ext ((h.srcIdx_row _ _ _ ⟨0, Nat.zero_lt_two⟩ rfl).trans (by rw [hr, hp]; omega))
    | ⟨1, _⟩ => exact Fin.ext (h.srcIdx_other _ _ _ ⟨1, Nat.one_lt_two⟩ (by show ¬ 1 + 2 = 2; omega))
  · rw [hr]; omega

/-- A tile at one place. -/
theorem pay26_apply (v : IVec S8x128 32) (r : Vec F S1x128 .i32) (a : Fin 32) (b : Fin 128) :
    k0_pay26 (F := F) k0_pay23 v r (ValueIdx.ix2 a b)
      = FloatOps.ofBits .fp8e4m3 (((decoded (v (ValueIdx.ix2 ⟨a.val / 4, by omega⟩ b))
          (IntOp.shrui .vector (r (ValueIdx.ix2 0 b)) (IntOp.muli (BitVec.ofNat 32 (a.val / 4)) 4#32))) >>> (8 * (a.val % 4))).setWidth 8) := by
  unfold k0_pay26 k0_pay23
  rw [shapeCast_self]
  show FloatOps.ofBits .fp8e4m3 (bitcast S32x128 8 _ _ (ValueIdx.ix2 a b)) = _
  rw [bitcast_32_8_ix2 _ _ a b ⟨a.val / 4, by omega⟩ rfl]
  unfold decoded
  pointwise
  rfl

/-- The words at one place: their low bytes of the two halves. -/
theorem pay24_low (v : Vec F S128x768 .i8) (a : Fin 384) (b : Fin 128) :
    IntOp.andi (k0_pay24 v (ValueIdx.ix2 a b)) 255#32 = (v (ValueIdx.ix2 b ⟨2 * a.val, by omega⟩)).setWidth 32 := by
  apply BitVec.eq_of_getLsbD_eq
  intro i hi
  have h255 : (255#32 : BitVec 32).getLsbD i = decide (i < 8) := by interval_cases i <;> rfl
  unfold IntOp.andi k0_pay24
  rw [BitVec.getLsbD_and, h255, bitcast_16_32_ix2 _ _ a b i hi ⟨2 * a.val + i / 16, by omega⟩ rfl, BitVec.getLsbD_setWidth]
  by_cases h : i < 8
  · rw [show (⟨2 * a.val + i / 16, by omega⟩ : Fin 768) = ⟨2 * a.val, by omega⟩ from Fin.ext (by show 2 * a.val + i / 16 = 2 * a.val; omega),
      ValueIdx.transpose_ix2_apply]
    show (((v (ValueIdx.ix2 b _)).signExtend 16).getLsbD _ && _) = _
    rw [BitVec.getLsbD_signExtend, show i % 16 = i by omega]
    simp [h, hi]
    intro _; omega
  · rw [BitVec.getLsbD_of_ge (v _) i (by omega)]
    simp [h]

/-- The third byte of word `(a, b)` is value byte `2 a + 1` of row `b`. -/
theorem pay24_high (v : Vec F S128x768 .i8) (a : Fin 384) (b : Fin 128) :
    IntOp.andi (IntOp.shrui .vector (k0_pay24 v (ValueIdx.ix2 a b)) 16#32) 255#32 = (v (ValueIdx.ix2 b ⟨2 * a.val + 1, by omega⟩)).setWidth 32 := by
  apply BitVec.eq_of_getLsbD_eq
  intro i hi
  have h255 : (255#32 : BitVec 32).getLsbD i = decide (i < 8) := by interval_cases i <;> rfl
  unfold IntOp.andi IntOp.shrui k0_pay24
  rw [if_pos (by decide), BitVec.getLsbD_and, h255, BitVec.getLsbD_setWidth]
  by_cases h : i < 8
  · rw [show ∀ y : BitVec 32, y >>> (16#32 : BitVec 32) = y >>> 16 from fun _ => rfl, BitVec.getLsbD_ushiftRight,
      bitcast_16_32_ix2 _ _ a b (16 + i) (by omega) ⟨2 * a.val + (16 + i) / 16, by omega⟩ rfl,
      show (⟨2 * a.val + (16 + i) / 16, by omega⟩ : Fin 768) = ⟨2 * a.val + 1, by omega⟩ from Fin.ext (by show 2 * a.val + (16 + i) / 16 = 2 * a.val + 1; omega),
      ValueIdx.transpose_ix2_apply]
    show (((v (ValueIdx.ix2 b _)).signExtend 16).getLsbD _ && _) = _
    rw [BitVec.getLsbD_signExtend, show (16 + i) % 16 = i by omega]
    simp [h, hi]
    intro _; omega
  · rw [BitVec.getLsbD_of_ge (v _) i (by omega)]
    simp [h]

end Cert.KernelIdeal.Gen
end
-- ==== Proof.Dense.lean ====
module

public import proofs.«01_k».proof.Proof.Decode
public import proofs.«01_k».proof.Proof.RValue

@[expose] public section

set_option maxRecDepth 16384

noncomputable section

namespace Cert.Meet

open Idealize.ShloMosaic Idealize.ShloMosaic.TcCoe
open Cert.KernelIdeal.Gen (wOf tileAt tileOf decoded pay26_apply pay24_low pay24_high decoded_byte two_bits two_bits_lt)
open Cert.ReferenceIdeal.Gen (weightR)

variable {F : FTy → Type} [FloatOps F]

/-! ## The dense weights of both programs -/

/-- The first position of a pair, as the reference reads it. -/
theorem first_pos (x : BitVec 32) (q : ℕ) (hq : q < 8) :
    IntOp.andi (IntOp.shrsi ArithUnit.host x (IntOp.muli (4#32) (BitVec.ofNat 32 q))) 3#32 = (x >>> (4 * q)) &&& 3#32 := by
  have e : (IntOp.muli (4#32) (BitVec.ofNat 32 q)).toNat = 4 * q := by interval_cases q <;> rfl
  unfold IntOp.andi IntOp.shrsi
  rw [if_pos (by omega), BitVec.sshiftRight', e, two_bits x _ (by omega)]

/-- The second position. -/
theorem second_pos (x : BitVec 32) (q : ℕ) (hq : q < 8) :
    IntOp.andi (IntOp.shrsi ArithUnit.host x (IntOp.addi (IntOp.muli (4#32) (BitVec.ofNat 32 q)) 2#32)) 3#32 = (x >>> (4 * q + 2)) &&& 3#32 := by
  have e : (IntOp.addi (IntOp.muli (4#32) (BitVec.ofNat 32 q)) 2#32).toNat = 4 * q + 2 := by interval_cases q <;> rfl
  unfold IntOp.andi IntOp.shrsi
  rw [if_pos (by omega), BitVec.sshiftRight', e, two_bits x _ (by omega)]

/-- The index word shifted to a pair, as the kernel does it. -/
theorem shifted (x : BitVec 32) (q : ℕ) (hq : q < 8) : IntOp.shrui .vector x (IntOp.muli (BitVec.ofNat 32 q) 4#32) = x >>> (4 * q) := by
  have e : (IntOp.muli (BitVec.ofNat 32 q) (4#32)).toNat = 4 * q := by interval_cases q <;> rfl
  unfold IntOp.shrui
  rw [if_pos (by omega), BitVec.ushiftRight_eq', e]

/-- A choice by a position. -/
theorem choose_pos {α : Type} (p : BitVec 32) (j : ℕ) (hj : j < 4) (a b : α) :
    Scalar.select (IntOp.cmpi CmpIPredicate.eq p (BitVec.ofNat 32 j)) a b = if p.toNat = j then a else b := by
  have ej : (BitVec.ofNat 32 j).toNat = j := by rw [BitVec.toNat_ofNat]; omega
  unfold Scalar.select IntOp.cmpi
  by_cases h : p.toNat = j
  · have e : p = BitVec.ofNat 32 j := BitVec.eq_of_toNat_eq (by rw [ej, h])
    rw [if_pos h, e]
    simp
  · have e : ¬ p = BitVec.ofNat 32 j := fun e => h (by rw [e, ej])
    rw [if_neg h, beq_eq_false_iff_ne.mpr e]
    rfl

/-- A tile of words read at one place. -/
theorem tile_apply (g : Fin 48) (V : IVec Cert.KernelIdeal.S384x128 32) (ir : Vec F Cert.KernelIdeal.S1x128 .i32) (a : Fin 32) (b : Fin 128) :
    tileOf (F := F) g V ir (ValueIdx.ix2 a b)
      = FloatOps.ofBits .fp8e4m3 (((decoded (V (ValueIdx.ix2 ⟨8 * g.val + a.val / 4, by omega⟩ b))
          (IntOp.shrui .vector (ir (ValueIdx.ix2 0 b)) (IntOp.muli (BitVec.ofNat 32 (a.val / 4)) 4#32))) >>> (8 * (a.val % 4))).setWidth 8) := by
  refine (pay26_apply _ _ a b).trans ?_
  refine congrArg (fun w => FloatOps.ofBits .fp8e4m3 (((decoded w
          (IntOp.shrui .vector (ir (ValueIdx.ix2 0 b)) (IntOp.muli (BitVec.ofNat 32 (a.val / 4)) 4#32))) >>> (8 * (a.val % 4))).setWidth 8)) ?_
  exact extractStridedSlice_apply _ _ _ _ _ fun c => match c with
    | 0 => rfl
    | 1 => by show b.val = 0 + b.val; omega

/-- Where the two positions of every pair differ, the weight that the kernel decodes is the reference's byte read as a number. -/
theorem weight_meet (x2 : Vec F Cert.KernelIdeal.S1280x768 .i8) (x3 : Vec F Cert.KernelIdeal.S48x1280 .i32)
    (a2 : Vec F Cert.ReferenceIdeal.S8960x768 .i8) (a3 : Vec F Cert.ReferenceIdeal.S8960x48 .i32) (R : Fin 1280 → Fin 8960)
    (h2 : ∀ r k, x2 (ValueIdx.ix2 r k) = a2 (ValueIdx.ix2 (R r) k)) (h3 : ∀ g r, x3 (ValueIdx.ix2 g r) = a3 (ValueIdx.ix2 (R r) g))
    (hd : ∀ (r : Fin 8960) (g : Fin 48) (q : Fin 8),
      IntOp.andi (IntOp.shrsi ArithUnit.host (a3 (ValueIdx.ix2 r g)) (IntOp.muli (4#32) (BitVec.ofNat 32 q.val))) 3#32
        ≠ IntOp.andi (IntOp.shrsi ArithUnit.host (a3 (ValueIdx.ix2 r g)) (IntOp.addi (IntOp.muli (4#32) (BitVec.ofNat 32 q.val)) 2#32)) 3#32)
    (k : Fin 1536) (l : Fin 1280) :
    wOf x2 x3 (ValueIdx.ix2 k l) = FloatOps.ofBits .fp8e4m3 (weightR a2 a3 (R l) k) := by
  have hk := k.isLt
  have hl := l.isLt
  have eq : k.val % 32 / 4 = k.val / 4 % 8 := by omega
  have ej : k.val % 32 % 4 = k.val % 4 := by omega
  have hq : k.val / 4 % 8 < 8 := Nat.mod_lt _ (by decide)
  have hj : k.val % 4 < 4 := Nat.mod_lt _ (by decide)
  have hdd := hd (R l) ⟨k.val / 32, by omega⟩ ⟨k.val / 4 % 8, hq⟩
  simp only at hdd
  rw [first_pos _ _ hq, second_pos _ _ hq] at hdd
  unfold weightR
  rw [first_pos _ _ hq, second_pos _ _ hq, choose_pos _ _ hj, choose_pos _ _ hj]
  have e3 : View.ld x3 (Rect.unit (s := Cert.KernelIdeal.S48x1280) ![k.val / 32, 128 * (l.val / 128)] Cert.KernelIdeal.S1x128.size
      (Fin.forall_fin_two.mpr ⟨by show k.val / 32 + 1 ≤ 48; omega, by show 128 * (l.val / 128) + 128 ≤ 1280; omega⟩))
      (ValueIdx.ix2 0 ⟨l.val % 128, Nat.mod_lt _ (by decide)⟩) = a3 (ValueIdx.ix2 (R l) ⟨k.val / 32, by omega⟩) := by
    rw [← h3]
    show x3 _ = x3 _
    congr 1
    funext a
    match a with
    | 0 => exact Fin.ext (by show k.val / 32 + 1 * 0 = k.val / 32; omega)
    | 1 => exact Fin.ext (by show 128 * (l.val / 128) + 1 * (l.val % 128) = l.val; omega)
  have e2 : ∀ j : Fin 768, View.ld x2 (Rect.unit (s := Cert.KernelIdeal.S1280x768) ![128 * (l.val / 128), 0] Cert.KernelIdeal.S128x768.size
      (Fin.forall_fin_two.mpr ⟨by show 128 * (l.val / 128) + 128 ≤ 1280; omega, Nat.le_refl 768⟩))
      (ValueIdx.ix2 ⟨l.val % 128, Nat.mod_lt _ (by decide)⟩ j) = a2 (ValueIdx.ix2 (R l) j) := by
    intro j
    rw [← h2]
    show x2 _ = x2 _
    congr 1
    funext a
    match a with
    | 0 => exact Fin.ext (by show 128 * (l.val / 128) + 1 * (l.val % 128) = l.val; omega)
    | 1 => exact Fin.ext (by show 0 + 1 * j.val = j.val; omega)
  have low := pay24_low (F := F) (View.ld x2 (Rect.unit (s := Cert.KernelIdeal.S1280x768) ![128 * (l.val / 128), 0] Cert.KernelIdeal.S128x768.size
      (Fin.forall_fin_two.mpr ⟨by show 128 * (l.val / 128) + 128 ≤ 1280; omega, Nat.le_refl 768⟩)))
      (⟨8 * (k.val / 32) + k.val / 4 % 8, by omega⟩ : Fin 384) (⟨l.val % 128, Nat.mod_lt _ (by decide)⟩ : Fin 128)
  have high := pay24_high (F := F) (View.ld x2 (Rect.unit (s := Cert.KernelIdeal.S1280x768) ![128 * (l.val / 128), 0] Cert.KernelIdeal.S128x768.size
      (Fin.forall_fin_two.mpr ⟨by show 128 * (l.val / 128) + 128 ≤ 1280; omega, Nat.le_refl 768⟩)))
      (⟨8 * (k.val / 32) + k.val / 4 % 8, by omega⟩ : Fin 384) (⟨l.val % 128, Nat.mod_lt _ (by decide)⟩ : Fin 128)
  rw [e2] at low high
  refine (tile_apply ⟨k.val / 32, by omega⟩ (Cert.KernelIdeal.Gen.k0_pay24 (View.ld x2 (Rect.unit (s := Cert.KernelIdeal.S1280x768) ![128 * (l.val / 128), 0] Cert.KernelIdeal.S128x768.size
      (Fin.forall_fin_two.mpr ⟨by show 128 * (l.val / 128) + 128 ≤ 1280; omega, Nat.le_refl 768⟩))))
    (View.ld x3 (Rect.unit (s := Cert.KernelIdeal.S48x1280) ![k.val / 32, 128 * (l.val / 128)] Cert.KernelIdeal.S1x128.size
      (Fin.forall_fin_two.mpr ⟨by show k.val / 32 + 1 ≤ 48; omega, by show 128 * (l.val / 128) + 128 ≤ 1280; omega⟩)))
    ⟨k.val % 32, Nat.mod_lt _ (by decide)⟩ ⟨l.val % 128, Nat.mod_lt _ (by decide)⟩).trans ?_
  refine congrArg (FloatOps.ofBits FTy.fp8e4m3) ?_
  simp only [eq, ej]
  rw [shifted _ _ hq, e3, decoded_byte _ _ _ _ _ _ hq hj low high hdd]
  have c0 : (⟨2 * (8 * (k.val / 32) + k.val / 4 % 8), by omega⟩ : Fin 768) = ⟨k.val / 32 * 16 + k.val / 4 % 8 * 2, by omega⟩ := Fin.ext (by simp only; omega)
  have c1 : (⟨2 * (8 * (k.val / 32) + k.val / 4 % 8) + 1, by omega⟩ : Fin 768) = ⟨k.val / 32 * 16 + k.val / 4 % 8 * 2 + 1, by omega⟩ := Fin.ext (by simp only; omega)
  simp only [c0, c1]

end Cert.Meet
end
-- ==== Proof.KValue.lean ====
module

public import proofs.«01_k».proof.Proof.Run
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic Idealize.SL.Sem
open Idealize.ShloMosaic.Pipeline (Dat Cfg Window)

variable {F : FTy → Type} [FloatOps F]

variable (m : (ℓ : Loc nD τ sig) → Buf (Elt F) ℓ) (ρ : Dev nD → PrngReg)

/-! ## The arrays after the run -/

/-- There are seven grid points. -/
theorem point_lt (t : Fin cfg0.N) : t.val < 7 := lt_of_lt_of_eq t.isLt N_0

/-- The grid point whose block holds column `n` of the product. -/
def pointOf (n : ℕ) (h : n < 8960) : Fin cfg0.N := ⟨n / 1280, by rw [show cfg0.N = 7 from N_0]; omega⟩

/-- The last grid point. -/
def last : Fin cfg0.N := ⟨6, by rw [show cfg0.N = 7 from N_0]; decide⟩

/-- The block that point `t` writes of the product. -/
def yBlock (c : Dev nD) (t : Fin cfg0.N) : Vec F S1536x1280 .bf16 :=
  yOf (iblk m c 0 t) (codes m c) (iblk m c 2 t) (iblk m c 3 t) (iblk m c 4 t)

/-- The product as one array. -/
def yArr (c : Dev nD) : Vec F S1536x8960 .bf16 := fun i =>
  yBlock m c (pointOf (i 1).val (i 1).isLt) (ValueIdx.ix2 (i 0) ⟨(i 1).val % 1280, Nat.mod_lt _ (by decide)⟩)

/-- Where each window's block lies at each point. -/
theorem idx0_0 : ∀ t : Fin cfg0.N, win0_0.index t = ![0] := (by decide +kernel : ∀ t : Fin grid0.N, win0_0.index t = ![0])
/-- Where the block of the activations lies at point `t`. -/
theorem idx0_1 : ∀ t : Fin cfg0.N, win0_1.index t = ![0, 0] := (by decide +kernel : ∀ t : Fin grid0.N, win0_1.index t = ![0, 0])
/-- Where the block of the value bytes lies at point `t`. -/
theorem idx0_2 : ∀ t : Fin cfg0.N, win0_2.index t = ![t.val, 0] := (by decide +kernel : ∀ t : Fin grid0.N, win0_2.index t = ![t.val, 0])
/-- Where the block of the index words lies at point `t`. -/
theorem idx0_3 : ∀ t : Fin cfg0.N, win0_3.index t = ![0, t.val] := (by decide +kernel : ∀ t : Fin grid0.N, win0_3.index t = ![0, t.val])
/-- Where the block of the weight scales lies at point `t`. -/
theorem idx0_4 : ∀ t : Fin cfg0.N, win0_4.index t = ![0, t.val] := (by decide +kernel : ∀ t : Fin grid0.N, win0_4.index t = ![0, t.val])
/-- Where the block of the product lies at point `t`. -/
theorem idx0_5 : ∀ t : Fin cfg0.N, win0_5.index t = ![0, t.val] := (by decide +kernel : ∀ t : Fin grid0.N, win0_5.index t = ![0, t.val])

/-- The product's array after the run. -/
theorem final5 (c : Dev nD) : (dats m 0 c).arrAt 5 cfg0.N = yArr m c := by
  refine (dats m 0 c).arrAt_eq_of_covers 5 _ (by decide +kernel) fun t hf y => ?_
  blk_simp
  rw [after0_5]
  have e0 : ((((cfg0.win 5).blk t).view.emb y) 0 : ℕ) = (y 0).val := by
    blk_simp [idx0_5 t]
  have e1 : ((((cfg0.win 5).blk t).view.emb y) 1 : ℕ) = t.val * 1280 + (y 1).val := by
    blk_simp [idx0_5 t]
  have hy0 : (y 0).val < 1536 := (y 0).isLt
  have hy1 : (y 1).val < 1280 := (y 1).isLt
  have ht := point_lt t
  generalize hz : ((win0_5.blk t).view.emb y) = z
  have z0 : (z 0).val = (y 0).val := by rw [← hz]; exact e0
  have z1 : (z 1).val = t.val * 1280 + (y 1).val := by rw [← hz]; exact e1
  show _ = yBlock m c (pointOf (z 1).val (z 1).isLt) _
  rw [show pointOf (z 1).val (z 1).isLt = t from Fin.ext (by show (z 1).val / 1280 = t.val; omega)]
  unfold yBlock
  congr 1
  funext a
  match a with
  | 0 => exact Fin.ext (by show (y 0).val = (z 0).val; omega)
  | 1 => exact Fin.ext (by show (y 1).val = (z 1).val % 1280; omega)

/-- The codes' array after the run. -/
theorem final6 (c : Dev nD) : (dats m 0 c).arrAt 6 cfg0.N = codes m c := by
  refine (dats m 0 c).arrAt_eq_of_after_last 6 last (by decide +kernel) _ fun j => ?_
  blk_simp
  rw [after0_6]

/-- The scale's array after the run. -/
theorem final7 (c : Dev nD) : (dats m 0 c).arrAt 7 cfg0.N = scales m c := by
  refine (dats m 0 c).arrAt_eq_of_after_last 7 last (by decide +kernel) _ fun j => ?_
  blk_simp
  rw [after0_7]

/-- The record's array after the run. -/
theorem final8 (c : Dev nD) : (dats m 0 c).arrAt 8 cfg0.N = hist m c := by
  refine (dats m 0 c).arrAt_eq_of_after_last 8 last (by decide +kernel) _ fun j => ?_
  blk_simp
  rw [after0_8]

/-- The amax record that the body reads. -/
theorem iblk0 (c : Dev nD) (t : Fin cfg0.N) : iblk m c 0 t = m ((c : Thread nD τ).loc main_arg1) := by
  funext y
  blk_simp [iblk, idx0_0 t]
  entry_read
  blk_ext! [idx0_0 t]

/-- The activations that the body reads. -/
theorem iblk1 (c : Dev nD) (t : Fin cfg0.N) (i k : Fin 1536) : iblk m c 1 t (ValueIdx.ix2 i k)
    = m ((c : Thread nD τ).loc main_arg0) (ValueIdx.ix3 ⟨i.val / 512, by omega⟩ ⟨i.val % 512, by omega⟩ k) := by
  blk_simp [iblk, idx0_1 t]
  entry_read
  pointwise
  blk_ext! [idx0_1 t]

/-- The value bytes that the body reads at point `t`. -/
theorem iblk2 (c : Dev nD) (t : Fin cfg0.N) (r : Fin 1280) (k : Fin 768) : iblk m c 2 t (ValueIdx.ix2 r k)
    = m ((c : Thread nD τ).loc main_arg2) (ValueIdx.ix2 ⟨t.val * 1280 + r.val, by have := point_lt t; omega⟩ k) := by
  blk_simp [iblk, idx0_2 t]
  entry_read
  blk_ext! [idx0_2 t]

/-- The index words that the body reads at point `t`. -/
theorem iblk3 (c : Dev nD) (t : Fin cfg0.N) (g : Fin 48) (r : Fin 1280) : iblk m c 3 t (ValueIdx.ix2 g r)
    = m ((c : Thread nD τ).loc main_arg3) (ValueIdx.ix2 ⟨t.val * 1280 + r.val, by have := point_lt t; omega⟩ g) := by
  blk_simp [iblk, idx0_3 t]
  entry_read
  pointwise
  blk_ext! [idx0_3 t]

/-- The weight scales that the body reads at point `t`. -/
theorem iblk4 (c : Dev nD) (t : Fin cfg0.N) (z : Fin 1) (r : Fin 1280) : iblk m c 4 t (ValueIdx.ix2 z r)
    = m ((c : Thread nD τ).loc main_arg4) (ValueIdx.ix1 ⟨t.val * 1280 + r.val, by have := point_lt t; omega⟩) := by
  blk_simp [iblk, idx0_4 t]
  entry_read
  pointwise
  blk_ext! [idx0_4 t]

end Cert.KernelIdeal.Gen
end
-- ==== Proof.RFinal.lean ====
module

public import proofs.«01_k».proof.Proof.RValue

@[expose] public section

set_option maxRecDepth 16384

noncomputable section

namespace Cert.ReferenceIdeal.Gen

open Idealize.ShloMosaic Idealize.ShloMosaic.TcCoe Idealize.ShloMosaic.Tactic Idealize.SL.Sem
open Idealize.ShloMosaic.Pipeline (Dat Cfg Window)

variable {F : FTy → Type} [FloatOps F]
variable (m : (ℓ : Loc nD τ sig) → Buf (Elt F) ℓ) (ρ : Dev nD → PrngReg)

/-! ## The reference's arrays after its region -/

/-- Every window of the region lies at the origin. -/
theorem at0 : ∀ t : Fin cfg0.N, win0_0.index t = ![0, 0] := (by decide +kernel : ∀ t : Fin grid0.N, win0_0.index t = ![0, 0])
/-- The block of the scale is the whole array. -/
theorem at1 : ∀ t : Fin cfg0.N, win0_1.index t = ![0, 0] := (by decide +kernel : ∀ t : Fin grid0.N, win0_1.index t = ![0, 0])
/-- The block of the inverse is the whole array. -/
theorem at2 : ∀ t : Fin cfg0.N, win0_2.index t = ![0, 0] := (by decide +kernel : ∀ t : Fin grid0.N, win0_2.index t = ![0, 0])
/-- The block of the weights is the whole array. -/
theorem at3 : ∀ t : Fin cfg0.N, win0_3.index t = ![0, 0] := (by decide +kernel : ∀ t : Fin grid0.N, win0_3.index t = ![0, 0])
/-- The block of the weight scales is the whole array. -/
theorem at4 : ∀ t : Fin cfg0.N, win0_4.index t = ![0, 0] := (by decide +kernel : ∀ t : Fin grid0.N, win0_4.index t = ![0, 0])
/-- The block of the product is the whole array. -/
theorem at5 : ∀ t : Fin cfg0.N, win0_5.index t = ![0, 0] := (by decide +kernel : ∀ t : Fin grid0.N, win0_5.index t = ![0, 0])
/-- The block of the codes is the whole array. -/
theorem at6 : ∀ t : Fin cfg0.N, win0_6.index t = ![0, 0] := (by decide +kernel : ∀ t : Fin grid0.N, win0_6.index t = ![0, 0])

/-- Each input block is its whole array. -/
theorem iblk_x (c : Dev nD) (t : Fin cfg0.N) : iblk m c 0 t = V m c main_v65 := by
  funext y
  blk_simp [iblk, at0 t]
  blk_ext! [at0 t]

/-- The scale that the body reads. -/
theorem iblk_scale (c : Dev nD) (t : Fin cfg0.N) : iblk m c 1 t = V m c main_v66 := by
  funext y
  blk_simp [iblk, at1 t]
  blk_ext! [at1 t]

/-- The inverse that the body reads. -/
theorem iblk_inv (c : Dev nD) (t : Fin cfg0.N) : iblk m c 2 t = V m c main_v67 := by
  funext y
  blk_simp [iblk, at2 t]
  blk_ext! [at2 t]

/-- The weights' bytes that the body reads. -/
theorem iblk_w (c : Dev nD) (t : Fin cfg0.N) : iblk m c 3 t = V m c main_v68 := by
  funext y
  blk_simp [iblk, at3 t]
  blk_ext! [at3 t]

/-- The weight scales that the body reads. -/
theorem iblk_ws (c : Dev nD) (t : Fin cfg0.N) : iblk m c 4 t = V m c main_v69 := by
  funext y
  blk_simp [iblk, at4 t]
  blk_ext! [at4 t]

/-- The codes after the run. -/
theorem final6 (c : Dev nD) : (dats m 0 c).arrAt 6 cfg0.N = k0_pay1 (V m c main_v65) (V m c main_v67) := by
  refine (dats m 0 c).arrAt_eq_of_covers 6 _ (by decide +kernel) fun t hf y => ?_
  blk_simp
  rw [after0_6, iblk_x, iblk_scale, iblk_inv, iblk_w, iblk_ws]
  frame_out
  blk_ext! [at6 t]

/-- The product after the run. -/
theorem final5 (c : Dev nD) : (dats m 0 c).arrAt 5 cfg0.N
    = k0_pay2 (V m c main_v65) (V m c main_v67) (V m c main_v68) (V m c main_v66) (V m c main_v69) := by
  refine (dats m 0 c).arrAt_eq_of_covers 5 _ (by decide +kernel) fun t hf y => ?_
  blk_simp
  rw [after0_5, iblk_x, iblk_scale, iblk_inv, iblk_w, iblk_ws]
  frame_out
  blk_ext! [at5 t]

end Cert.ReferenceIdeal.Gen
end
-- ==== Proof.Values.lean ====
module

public import proofs.«01_k».proof.Proof.Scale
public import proofs.«01_k».proof.Proof.Dense
public import proofs.«01_k».proof.Proof.KValue
public import proofs.«01_k».proof.Proof.RFinal
public import Idealize.ShloMosaic.Lib.MatmulPlain
public import Idealize.ShloMosaic.Lib.ValueLayout

@[expose] public section

set_option maxRecDepth 16384

noncomputable section

namespace Cert.Meet

open Idealize.ShloMosaic Idealize.ShloMosaic.TcCoe Idealize.ShloMosaic.Tactic

/-! ## The two programs' payloads over the extended reals, read at an index -/

/-- One code: the scaled activation brought between -448 and 448. -/
def code (x inv : EReal) : EReal := min (Ideal.ofBits .f32 0x43E00000#32) (max (Ideal.ofBits .f32 0xC3E00000#32) (x * inv))

/-- The kernel's codes. -/
theorem kernel_code (e : BitVec 32) (x : Vec Ideal Cert.KernelIdeal.S1536x1536 .bf16) (i k : Fin 1536) :
    (Cert.KernelIdeal.Gen.k0_pay3 (F := Ideal) e x (ValueIdx.ix2 i k) : EReal)
      = code (x (ValueIdx.ix2 i k)) (Cert.KernelIdeal.Gen.pow2 (F := Ideal) (Scalar.subi 0#32 e)) := by
  unfold Cert.KernelIdeal.Gen.k0_pay3 Cert.KernelIdeal.Gen.k0_pay2
  rw [shapeCast_self]
  rfl

/-- The reference's codes. -/
theorem reference_code (x : Vec Ideal Cert.ReferenceIdeal.S1536x1536 .bf16) (inv : Vec Ideal Cert.ReferenceIdeal.S1x1 .f32) (i k : Fin 1536) :
    (Cert.ReferenceIdeal.Gen.k0_pay1 (F := Ideal) x inv (ValueIdx.ix2 i k) : EReal) = code (x (ValueIdx.ix2 i k)) (inv (ValueIdx.ix2 0 0)) := by
  unfold Cert.ReferenceIdeal.Gen.k0_pay1
  rw [shapeCast_self, shapeCast_self]
  pointwise
  rfl

/-- The kernel's product at one place. -/
theorem kernel_product (s : Ideal .f32) (q : FVec Ideal Cert.KernelIdeal.S1536x1536 .fp8e4m3) (w : Vec Ideal Cert.KernelIdeal.S1536x1280 .fp8e4m3)
    (ws : Vec Ideal Cert.KernelIdeal.S1x1280 .f32) (i : Fin 1536) (l : Fin 1280) :
    (Cert.KernelIdeal.Gen.k0_pay1 (F := Ideal) s q w ws (ValueIdx.ix2 i l) : EReal)
      = ((∑ k : Fin 1536, (q (ValueIdx.ix2 i k) : EReal) * w (ValueIdx.ix2 k l)) * s) * ws (ValueIdx.ix2 0 l) := by
  unfold Cert.KernelIdeal.Gen.k0_pay1
  rw [shapeCast_self]
  have e := Ideal.matmul_plain_apply (φ₂ := .fp8e4m3) none q w (constant (F := Ideal) Cert.KernelIdeal.S1536x1280 .f32 0x00000000#32) i l
  have z : (constant (F := Ideal) Cert.KernelIdeal.S1536x1280 .f32 0x00000000#32 (ValueIdx.ix2 i l) : EReal) = 0 := Ideal.ofBits_zero_f32
  rw [z, zero_add] at e
  rw [← e]
  pointwise
  rfl

/-- The reference's product at one place. -/
theorem reference_product (x : Vec Ideal Cert.ReferenceIdeal.S1536x1536 .bf16) (inv : Vec Ideal Cert.ReferenceIdeal.S1x1 .f32)
    (w : Vec Ideal Cert.ReferenceIdeal.S8960x1536 .i8) (s : Vec Ideal Cert.ReferenceIdeal.S1x1 .f32) (ws : Vec Ideal Cert.ReferenceIdeal.S1x8960 .f32)
    (i : Fin 1536) (n : Fin 8960) :
    (Cert.ReferenceIdeal.Gen.k0_pay2 (F := Ideal) x inv w s ws (ValueIdx.ix2 i n) : EReal)
      = ((∑ k : Fin 1536, (Cert.ReferenceIdeal.Gen.k0_pay1 (F := Ideal) x inv (ValueIdx.ix2 i k) : EReal)
          * Ideal.ofBits .fp8e4m3 (w (ValueIdx.ix2 n k))) * s (ValueIdx.ix2 0 0)) * ws (ValueIdx.ix2 0 n) := by
  unfold Cert.ReferenceIdeal.Gen.k0_pay2
  rw [shapeCast_self, shapeCast_self, shapeCast_self]
  have e := Ideal.matmul_transposedRhs_apply none (Cert.ReferenceIdeal.Gen.k0_pay1 (F := Ideal) x inv) (bitcastToFloat (F := Ideal) .fp8e4m3 w)
    (constant (F := Ideal) Cert.ReferenceIdeal.S1536x8960 .f32 0x00000000#32) i n
  have z : (constant (F := Ideal) Cert.ReferenceIdeal.S1536x8960 .f32 0x00000000#32 (ValueIdx.ix2 i n) : EReal) = 0 := Ideal.ofBits_zero_f32
  rw [z, zero_add] at e
  have e' : (∑ k : Fin 1536, (Cert.ReferenceIdeal.Gen.k0_pay1 (F := Ideal) x inv (ValueIdx.ix2 i k) : EReal)
      * Ideal.ofBits .fp8e4m3 (w (ValueIdx.ix2 n k))) = _ := e.symm
  rw [e']
  pointwise
  rfl

/-- A bound of a matrix's values is one of its values with a unit axis before its own. -/
theorem slice_le {a b : ℕ} (x : Vec Ideal ⟨2, ![a, b]⟩ .f32) (hx : Shape.ShapeCasts ⟨2, ![a, b]⟩ ⟨3, ![1, a, b]⟩) (c : EReal)
    (h : ∀ (i : Fin a) (k : Fin b), (x (ValueIdx.ix2 i k) : EReal) ≤ c) (y : Shape.Idx ⟨3, ![1, a, b]⟩) :
    (shapeCast ⟨3, ![1, a, b]⟩ x hx y : EReal) ≤ c := by
  rw [ValueIdx.eq_ix3 y]
  exact le_of_eq_of_le (ValueIdx.shapeCast_ab_1ab_apply x hx (y 0) (y 1) (y 2)) (h (y 1) (y 2))

/-- What holds of every bound of a one-element vector holds of its element, read through a shape of three unit axes. -/
theorem one_le (v : Vec Ideal Cert.KernelIdeal.S1 .f32) (hc : Cert.KernelIdeal.S1.ShapeCasts Cert.KernelIdeal.S1x1x1)
    (hp : ∀ a, (![0, 0, 0] : Fin 3 → Nat) a < Cert.KernelIdeal.S1x1x1.size a) (b : EReal) (q : Prop) (h : ∀ j, (v j : EReal) ≤ b ↔ q) :
    (extractAt ![0, 0, 0] (shapeCast Cert.KernelIdeal.S1x1x1 v hc) hp : EReal) ≤ b ↔ q :=
  h _

/-- The kernel's new maximum is at most `b` exactly where every magnitude is. -/
theorem kernel_max_le (x : Vec Ideal Cert.KernelIdeal.S1536x1536 .bf16) (b : EReal) :
    (Cert.KernelIdeal.Gen.k0_pay4 (F := Ideal) x : EReal) ≤ b ↔ ∀ i k : Fin 1536, max (x (ValueIdx.ix2 i k) : EReal) (-(x (ValueIdx.ix2 i k) : EReal)) ≤ b := by
  unfold Cert.KernelIdeal.Gen.k0_pay4 Cert.KernelIdeal.Gen.k0_pay2
  rw [shapeCast_self]
  haveI : Subsingleton Cert.KernelIdeal.S1.Idx := ⟨fun p q => funext fun a => match a with | 0 => Fin.ext (by
    have h1 : (p 0).val < 1 := (p 0).isLt
    have h2 : (q 0).val < 1 := (q 0).isLt
    omega)⟩
  have key : ∀ j, (multiReduction (F := Ideal) .maximumf [1, 2] Cert.KernelIdeal.S1
      (shapeCast Cert.KernelIdeal.S1x1536x1536 (absf (F := Ideal) (extf (F := Ideal) .f32 x Cert.KernelIdeal.Gen.bitsLt_bf16_f32)) Cert.KernelIdeal.Gen.shapeCasts_S1536x1536_S1x1536x1536)
      0xFF800000#32 Cert.KernelIdeal.Gen.reduces_S1x1536x1536_S1 (.inl rfl) rfl j : EReal) ≤ b
        ↔ ∀ i k : Fin 1536, max (x (ValueIdx.ix2 i k) : EReal) (-(x (ValueIdx.ix2 i k) : EReal)) ≤ b := by
    intro j
    refine (iff_of_eq (congrArg (fun r : EReal => r ≤ b) (multiReduction_maximumf_eq_fold _ _ _ _ _ j))).trans ?_
    refine (Finset.fold_max_le _).trans ⟨fun h i k => ?_, fun h => ⟨?_, fun y _ => ?_⟩⟩
    · have q := h.2 (ValueIdx.ix3 0 i k) (by simp [Subsingleton.elim _ j])
      rw [ValueIdx.shapeCast_ab_1ab_apply] at q
      exact q
    · exact le_of_eq_of_le bottom_eq bot_le
    · exact slice_le _ _ b h y
  exact one_le _ _ _ b _ key

/-- The two new maxima agree: the kernel's array is the activations with their first two axes as one. -/
theorem new_meet (x : Vec Ideal Cert.KernelIdeal.S1536x1536 .bf16) (a0 : Vec Ideal Cert.ReferenceIdeal.S3x512x1536 .bf16)
    (h : ∀ i k : Fin 1536, x (ValueIdx.ix2 i k) = a0 (ValueIdx.ix3 ⟨i.val / 512, by omega⟩ ⟨i.val % 512, by omega⟩ k)) :
    Cert.KernelIdeal.Gen.k0_pay4 (F := Ideal) x = Cert.ReferenceIdeal.Gen.newR a0 := by
  haveI : Subsingleton (Shape.Idx ⟨0, ![]⟩) := ⟨fun x y => funext fun a => a.elim0⟩
  refine eq_of_forall_ge_iff (α := EReal) fun b => (kernel_max_le x b).trans (Iff.trans ?_ (reduce_max_le _ _ _ _ b).symm)
  constructor
  · intro q y
    obtain ⟨u, v, k, rfl⟩ : ∃ (u : Fin 3) (v : Fin 512) (k : Fin 1536), y = ValueIdx.ix3 u v k := ⟨y 0, y 1, y 2, ValueIdx.eq_ix3 y⟩
    have r := q ⟨u.val * 512 + v.val, by omega⟩ k
    rw [h] at r
    have e1 : (⟨(u.val * 512 + v.val) / 512, by omega⟩ : Fin 3) = u := Fin.ext (by show (u.val * 512 + v.val) / 512 = u.val; omega)
    have e2 : (⟨(u.val * 512 + v.val) % 512, by omega⟩ : Fin 512) = v := Fin.ext (by show (u.val * 512 + v.val) % 512 = v.val; omega)
    rw [e1, e2] at r
    exact r
  · intro q i k
    rw [h]
    exact q _

end Cert.Meet
end
-- ==== Proof.Meet.lean ====
module

public import proofs.«01_k».proof.Proof.Values

@[expose] public section

set_option maxRecDepth 16384

noncomputable section

namespace Cert.Meet

open Idealize.ShloMosaic Idealize.ShloMosaic.TcCoe Idealize.ShloMosaic.Tactic

/-! ## The four results agree -/

/-- The record of maxima the kernel writes, at an index. -/
theorem histOf_at (x0 : Vec Ideal Cert.KernelIdeal.S16 .f32) (x1 : Vec Ideal Cert.KernelIdeal.S1536x1536 .bf16) (r : Fin 16) :
    Cert.KernelIdeal.Gen.histOf x0 x1 (ValueIdx.ix1 r)
      = if h : r.val < 1 then Cert.KernelIdeal.Gen.k0_pay4 (F := Ideal) x1 else x0 (ValueIdx.ix1 ⟨r.val - 1, by omega⟩) := by
  by_cases hz : r.val = 0
  · rw [dif_pos (show r.val < 1 by omega)]
    exact if_pos hz
  · rw [dif_neg (show ¬ r.val < 1 by omega)]
    exact if_neg hz

/-- One place of a block of the kernel's product. -/
theorem yOf_at (x0 : Vec Ideal Cert.KernelIdeal.S16 .f32) (q : Vec Ideal Cert.KernelIdeal.S1536x1536 .fp8e4m3)
    (x2 : Vec Ideal Cert.KernelIdeal.S1280x768 .i8) (x3 : Vec Ideal Cert.KernelIdeal.S48x1280 .i32) (x4 : Vec Ideal Cert.KernelIdeal.S1x1280 .f32)
    (i : Fin 1536) (l : Fin 1280) :
    (Cert.KernelIdeal.Gen.yOf (F := Ideal) x0 q x2 x3 x4 (ValueIdx.ix2 i l) : EReal)
      = ((∑ k : Fin 1536, (q (ValueIdx.ix2 i k) : EReal) * Cert.KernelIdeal.Gen.wOf x2 x3 (ValueIdx.ix2 k l)) * Cert.KernelIdeal.Gen.scaleOf x0)
        * x4 (ValueIdx.ix2 0 l) := by
  unfold Cert.KernelIdeal.Gen.yOf Cert.KernelIdeal.Gen.k0_pay1474
  rw [shapeCast_self]
  exact kernel_product _ _ _ _ i l

section

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The activations given to the kernel on device `c`. -/
abbrev kx : Vec Ideal Cert.KernelIdeal.S3x512x1536 .bf16 := m ((c : Thread Cert.KernelIdeal.nD Cert.KernelIdeal.τ).loc Cert.KernelIdeal.main_arg0)
/-- The record of maxima. -/
abbrev kr : Vec Ideal Cert.KernelIdeal.S16 .f32 := m ((c : Thread Cert.KernelIdeal.nD Cert.KernelIdeal.τ).loc Cert.KernelIdeal.main_arg1)
/-- The value bytes. -/
abbrev kv : Vec Ideal Cert.KernelIdeal.S8960x768 .i8 := m ((c : Thread Cert.KernelIdeal.nD Cert.KernelIdeal.τ).loc Cert.KernelIdeal.main_arg2)
/-- The index words. -/
abbrev ki : Vec Ideal Cert.KernelIdeal.S8960x48 .i32 := m ((c : Thread Cert.KernelIdeal.nD Cert.KernelIdeal.τ).loc Cert.KernelIdeal.main_arg3)
/-- The weight scales. -/
abbrev kw : Vec Ideal Cert.KernelIdeal.S8960 .f32 := m ((c : Thread Cert.KernelIdeal.nD Cert.KernelIdeal.τ).loc Cert.KernelIdeal.main_arg4)

variable (e0 : m' ((c : Thread Cert.ReferenceIdeal.nD Cert.ReferenceIdeal.τ).loc Cert.ReferenceIdeal.main_arg0) = kx m c)
variable (e1 : m' ((c : Thread Cert.ReferenceIdeal.nD Cert.ReferenceIdeal.τ).loc Cert.ReferenceIdeal.main_arg1) = kr m c)
variable (e2 : m' ((c : Thread Cert.ReferenceIdeal.nD Cert.ReferenceIdeal.τ).loc Cert.ReferenceIdeal.main_arg2) = kv m c)
variable (e3 : m' ((c : Thread Cert.ReferenceIdeal.nD Cert.ReferenceIdeal.τ).loc Cert.ReferenceIdeal.main_arg3) = ki m c)
variable (e4 : m' ((c : Thread Cert.ReferenceIdeal.nD Cert.ReferenceIdeal.τ).loc Cert.ReferenceIdeal.main_arg4) = kw m c)
variable (fin : ∀ i, max (kr m c i : EReal) (-(kr m c i : EReal)) ≤ Ideal.ofBits .f32 0x7F7FFFFF#32)
variable (hd : ∀ (r : Fin 8960) (g : Fin 48) (q : Fin 8),
  IntOp.andi (IntOp.shrsi ArithUnit.host (ki m c (ValueIdx.ix2 r g)) (IntOp.muli 4#32 (BitVec.ofNat 32 q.val))) 3#32
    ≠ IntOp.andi (IntOp.shrsi ArithUnit.host (ki m c (ValueIdx.ix2 r g)) (IntOp.addi (IntOp.muli 4#32 (BitVec.ofNat 32 q.val)) 2#32)) 3#32)

include e0 e1 fin in
/-- One code of the kernel is the reference's. -/
theorem code_meet (i k : Fin 1536) :
    Cert.KernelIdeal.Gen.codes m c (ValueIdx.ix2 i k)
      = Cert.ReferenceIdeal.Gen.k0_pay1 (Cert.ReferenceIdeal.Gen.V m' c Cert.ReferenceIdeal.main_v65)
          (Cert.ReferenceIdeal.Gen.V m' c Cert.ReferenceIdeal.main_v67) (ValueIdx.ix2 i k) := by
  refine Eq.trans ?_ (reference_code _ _ i k).symm
  rw [Cert.ReferenceIdeal.Gen.V_x, Cert.ReferenceIdeal.Gen.V_inv, e0, e1, ← (scale_meet (kr m c) fin).2]
  refine (kernel_code _ _ i k).trans ?_
  rw [Cert.KernelIdeal.Gen.iblk1, Cert.KernelIdeal.Gen.iblk0]

include e0 e1 fin in
/-- The codes agree. -/
theorem codes_meet :
    Cert.KernelIdeal.Gen.codes m c
      = Cert.ReferenceIdeal.Gen.k0_pay1 (Cert.ReferenceIdeal.Gen.V m' c Cert.ReferenceIdeal.main_v65)
          (Cert.ReferenceIdeal.Gen.V m' c Cert.ReferenceIdeal.main_v67) := by
  funext y
  have q := code_meet m m' c e0 e1 fin (y 0) (y 1)
  have e := ValueIdx.eq_ix2 y
  rw [e]
  exact q

include e1 fin in
/-- The scales agree. -/
theorem scales_meet : Cert.KernelIdeal.Gen.scales m c = Cert.ReferenceIdeal.Gen.V m' c Cert.ReferenceIdeal.main_v64 := by
  funext y
  have e := ValueIdx.eq_ix1 y
  rw [e]
  refine Eq.trans ?_ (Cert.ReferenceIdeal.Gen.V_scale m' c (y 0)).symm
  refine (congrArg Cert.KernelIdeal.Gen.scaleOf (Cert.KernelIdeal.Gen.iblk0 m c Cert.KernelIdeal.Gen.first)).trans ?_
  rw [e1]
  exact (scale_meet (kr m c) fin).1

include e0 e1 in
/-- The records of maxima agree. -/
theorem hist_meet : Cert.KernelIdeal.Gen.hist m c = Cert.ReferenceIdeal.Gen.V m' c Cert.ReferenceIdeal.main_v63 := by
  funext y
  have e := ValueIdx.eq_ix1 y
  rw [e]
  refine Eq.trans ?_ (Cert.ReferenceIdeal.Gen.V_hist m' c (y 0)).symm
  rw [e0, e1, ← new_meet (Cert.KernelIdeal.Gen.iblk m c 1 Cert.KernelIdeal.Gen.first) (kx m c)
    (Cert.KernelIdeal.Gen.iblk1 m c Cert.KernelIdeal.Gen.first)]
  refine (histOf_at _ _ (y 0)).trans ?_
  rw [Cert.KernelIdeal.Gen.iblk0]

include hd in
/-- One byte of the weights that the kernel forms at point `t`, read as a number, is the reference's. -/
theorem byte_meet (t : Fin Cert.KernelIdeal.cfg0.N) (l : Fin 1280) (n : Fin 8960) (hn : t.val * 1280 + l.val = n.val) (k : Fin 1536) :
    (Cert.KernelIdeal.Gen.wOf (F := Ideal) (Cert.KernelIdeal.Gen.iblk m c 2 t) (Cert.KernelIdeal.Gen.iblk m c 3 t) (ValueIdx.ix2 k l) : EReal)
      = Ideal.ofBits .fp8e4m3 (Cert.ReferenceIdeal.Gen.weightR (kv m c) (ki m c) n k) := by
  have ht := Cert.KernelIdeal.Gen.point_lt t
  have w := weight_meet (F := Ideal) (Cert.KernelIdeal.Gen.iblk m c 2 t) (Cert.KernelIdeal.Gen.iblk m c 3 t) (kv m c) (ki m c)
    (fun r => ⟨t.val * 1280 + r.val, by omega⟩) (fun r k => Cert.KernelIdeal.Gen.iblk2 m c t r k)
    (fun g r => Cert.KernelIdeal.Gen.iblk3 m c t g r) hd k l
  have e : (⟨t.val * 1280 + l.val, by omega⟩ : Fin 8960) = n := Fin.ext hn
  exact w.trans (congrArg (fun r => Ideal.ofBits .fp8e4m3 (Cert.ReferenceIdeal.Gen.weightR (kv m c) (ki m c) r k)) e)

include e0 e1 e2 e3 e4 fin hd in
/-- One place of the kernel's product at point `t` is the reference's. -/
theorem block_meet (t : Fin Cert.KernelIdeal.cfg0.N) (i : Fin 1536) (l : Fin 1280) (n : Fin 8960) (hn : t.val * 1280 + l.val = n.val) :
    Cert.KernelIdeal.Gen.yBlock m c t (ValueIdx.ix2 i l)
      = Cert.ReferenceIdeal.Gen.k0_pay2 (Cert.ReferenceIdeal.Gen.V m' c Cert.ReferenceIdeal.main_v65)
          (Cert.ReferenceIdeal.Gen.V m' c Cert.ReferenceIdeal.main_v67) (Cert.ReferenceIdeal.Gen.V m' c Cert.ReferenceIdeal.main_v68)
          (Cert.ReferenceIdeal.Gen.V m' c Cert.ReferenceIdeal.main_v66) (Cert.ReferenceIdeal.Gen.V m' c Cert.ReferenceIdeal.main_v69) (ValueIdx.ix2 i n) := by
  refine Eq.trans ?_ (reference_product _ _ _ _ _ i n).symm
  refine (yOf_at _ _ _ _ _ i l).trans ?_
  have hs : (∑ k : Fin 1536, (Cert.KernelIdeal.Gen.codes m c (ValueIdx.ix2 i k) : EReal)
        * Cert.KernelIdeal.Gen.wOf (F := Ideal) (Cert.KernelIdeal.Gen.iblk m c 2 t) (Cert.KernelIdeal.Gen.iblk m c 3 t) (ValueIdx.ix2 k l))
      = ∑ k : Fin 1536, (Cert.ReferenceIdeal.Gen.k0_pay1 (F := Ideal) (Cert.ReferenceIdeal.Gen.V m' c Cert.ReferenceIdeal.main_v65)
          (Cert.ReferenceIdeal.Gen.V m' c Cert.ReferenceIdeal.main_v67) (ValueIdx.ix2 i k) : EReal)
        * Ideal.ofBits .fp8e4m3 (Cert.ReferenceIdeal.Gen.V m' c Cert.ReferenceIdeal.main_v68 (ValueIdx.ix2 n k)) := by
    refine Finset.sum_congr rfl fun k _ => ?_
    rw [byte_meet m c hd t l n hn k, code_meet m m' c e0 e1 fin i k, Cert.ReferenceIdeal.Gen.V_w, e2, e3]
  have hw : (Cert.KernelIdeal.Gen.iblk m c 4 t (ValueIdx.ix2 0 l) : EReal)
      = Cert.ReferenceIdeal.Gen.V m' c Cert.ReferenceIdeal.main_v69 (ValueIdx.ix2 0 n) := by
    rw [Cert.KernelIdeal.Gen.iblk4, Cert.ReferenceIdeal.Gen.V_ws, e4]
    exact congrArg (fun r => kw m c (ValueIdx.ix1 r)) (Fin.ext hn)
  have hc : (Cert.KernelIdeal.Gen.scaleOf (F := Ideal) (Cert.KernelIdeal.Gen.iblk m c 0 t) : EReal)
      = Cert.ReferenceIdeal.Gen.V m' c Cert.ReferenceIdeal.main_v66 (ValueIdx.ix2 0 0) := by
    rw [Cert.KernelIdeal.Gen.iblk0, Cert.ReferenceIdeal.Gen.V_scale2, e1]
    exact (scale_meet (kr m c) fin).1
  exact congrArg₂ (fun a b : EReal => a * b) (congrArg₂ (fun a b : EReal => a * b) hs hc) hw

include e0 e1 e2 e3 e4 fin hd in
/-- The products agree. -/
theorem product_meet :
    Cert.KernelIdeal.Gen.yArr m c
      = Cert.ReferenceIdeal.Gen.k0_pay2 (Cert.ReferenceIdeal.Gen.V m' c Cert.ReferenceIdeal.main_v65)
          (Cert.ReferenceIdeal.Gen.V m' c Cert.ReferenceIdeal.main_v67) (Cert.ReferenceIdeal.Gen.V m' c Cert.ReferenceIdeal.main_v68)
          (Cert.ReferenceIdeal.Gen.V m' c Cert.ReferenceIdeal.main_v66) (Cert.ReferenceIdeal.Gen.V m' c Cert.ReferenceIdeal.main_v69) := by
  funext y
  have hy : (y 1).val < 8960 := (y 1).isLt
  have q := block_meet m m' c e0 e1 e2 e3 e4 fin hd (Cert.KernelIdeal.Gen.pointOf (y 1).val hy) (y 0) ⟨(y 1).val % 1280, Nat.mod_lt _ (by decide)⟩ (y 1)
    (show (y 1).val / 1280 * 1280 + (y 1).val % 1280 = (y 1).val by omega)
  have e := ValueIdx.eq_ix2 y
  exact q.trans (congrArg (Cert.ReferenceIdeal.Gen.k0_pay2 (F := Ideal) _ _ _ _ _) e.symm)

end

end Cert.Meet
end
-- ==== Proof.Premise.lean ====
module

public import proofs.«01_k».proof.Defs
public import proofs.«01_k».proof.Proof.Gen.Pre_pre
public import Idealize.ShloMosaic.Lib.ReduceAll
public import Idealize.ShloMosaic.Lib.Tactic
public import Idealize.ShloMosaic.Lib.WordCmp
public import Idealize.ShloMosaic.Lib.Affine
public import Idealize.ShloMosaic.Lib.ValueLayout
public import Idealize.ShloMosaic.Lib.Pointwise.TacticCore

@[expose] public section

set_option maxRecDepth 16384

noncomputable section

namespace Cert.Pre_pre.Gen

open Idealize.ShloMosaic Idealize.ShloMosaic.TcCoe Idealize.ShloMosaic.Tactic

/-! ## What the precondition says -/

/-- The two positions of pair `q` of word `(r, g)` differ, and the record of maxima is finite. -/
theorem premise (a0 : FVec Ideal S3x512x1536 .bf16) (a1 : FVec Ideal S16 .f32) (a2 : IVec S8960x768 8) (a3 : IVec S8960x48 32)
    (a4 : FVec Ideal S8960 .f32) (h : Cert.Pre_pre.fn (F := Ideal) a0 a1 a2 a3 a4 = fun _ => 1#1) :
    (∀ (r : Fin 8960) (g : Fin 48) (q : Fin 8),
      IntOp.andi (IntOp.shrsi ArithUnit.host (a3 (ValueIdx.ix2 r g)) (IntOp.muli 4#32 (BitVec.ofNat 32 q.val))) 3#32
        ≠ IntOp.andi (IntOp.shrsi ArithUnit.host (a3 (ValueIdx.ix2 r g)) (IntOp.addi (IntOp.muli 4#32 (BitVec.ofNat 32 q.val)) 2#32)) 3#32)
    ∧ ∀ i, max (a1 i : EReal) (-(a1 i : EReal)) ≤ Ideal.ofBits .f32 0x7F7FFFFF#32 := by
  haveI : Subsingleton S_.Idx := ⟨fun x y => funext fun a => a.elim0⟩
  have h0 := congrFun h ValueIdx.ix0
  unfold Cert.Pre_pre.fn Cert.Pre_pre.fn_part1 at h0
  have h1 := IntOp.andi_eq_one.mp h0
  clear h h0
  constructor
  · intro r g q
    have e := Host.reduce_andi_all _ _ _ _ _ h1.1 (ValueIdx.ix3 r g q)
    have e' : IntOp.cmpi .ne
        (IntOp.andi (IntOp.shrsi ArithUnit.host (a3 (ValueIdx.ix2 r g)) (IntOp.muli 4#32 (BitVec.ofNat 32 q.val))) 3#32)
        (IntOp.andi (IntOp.shrsi ArithUnit.host (a3 (ValueIdx.ix2 r g)) (IntOp.addi (IntOp.muli 4#32 (BitVec.ofNat 32 q.val)) 2#32)) 3#32) = 1#1 := by
      refine Eq.trans ?_ e
      clear e h1
      pointwise
      rfl
    exact fun hne => absurd ((WordCmp.cmpi_ne_eq _ _).symm.trans e') (by rw [decide_eq_false (not_not.mpr hne)]; decide)
  · intro i
    have e := Host.reduce_andi_all _ _ _ _ _ h1.2 i
    have e' : BitVec.ofBool (decide (max (a1 i : EReal) (-(a1 i : EReal)) ≤ Ideal.ofBits .f32 0x7F7FFFFF#32)) = 1#1 := e
    by_contra hn
    rw [decide_eq_false hn] at e'
    exact absurd e' (by decide)

end Cert.Pre_pre.Gen
end
-- ==== Proof.Algebraic.lean ====
module

public import proofs.«01_k».proof.Defs
public import proofs.«01_k».proof.Proof.Meet
public import proofs.«01_k».proof.Proof.Premise
public import proofs.«01_k».proof.Proof.Run
public import proofs.«01_k».proof.Proof.Gen.ReferenceIdeal.Value
public import Idealize.ShloMosaic.Lib.Claim

@[expose] public section

set_option maxRecDepth 16384

noncomputable section

namespace Cert.Meet

open Idealize.ShloMosaic Idealize.ShloMosaic.TcCoe Idealize.SL.Sem
open Cert.ReferenceIdeal.Gen (V)

/-! ## The two programs give the same results -/

/-- The kernel's four result arrays and its arguments after a run, in terms of the launch memory. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      (r.2.mem ((c.tc : Thread Cert.KernelIdeal.nD Cert.KernelIdeal.τ).loc Cert.KernelIdeal.main_v3_0) = Cert.KernelIdeal.Gen.yArr m c
      ∧ r.2.mem ((c.tc : Thread Cert.KernelIdeal.nD Cert.KernelIdeal.τ).loc Cert.KernelIdeal.main_v3_1) = Cert.KernelIdeal.Gen.codes m c
      ∧ r.2.mem ((c.tc : Thread Cert.KernelIdeal.nD Cert.KernelIdeal.τ).loc Cert.KernelIdeal.main_v3_2) = Cert.KernelIdeal.Gen.scales m c
      ∧ r.2.mem ((c.tc : Thread Cert.KernelIdeal.nD Cert.KernelIdeal.τ).loc Cert.KernelIdeal.main_v3_3) = Cert.KernelIdeal.Gen.hist m c)) :=
  (θ_run _ _ _).mono (fun r h c => ⟨((h c).1 5).trans (Cert.KernelIdeal.Gen.final5 m c), ((h c).1 6).trans (Cert.KernelIdeal.Gen.final6 m c),
    ((h c).1 7).trans (Cert.KernelIdeal.Gen.final7 m c), ((h c).1 8).trans (Cert.KernelIdeal.Gen.final8 m c)⟩)
    (Cert.KernelIdeal.Gen.run_main m g)

/-- The algebraic claim: from memories that agree on the arguments, with the pairs' positions distinct and the record of maxima finite, the
    kernel and the reference give the same four results. -/
theorem algebraic : Cert.algebraic_KernelIdeal_ReferenceIdeal_pre_pre (hKernelIdeal := Cert.KernelIdeal.Gen.facts)
    (hReferenceIdeal := Cert.ReferenceIdeal.Gen.facts) (hPre_pre := Cert.Pre_pre.Gen.facts) := by
  intro m g m' g' hpre he
  refine ⟨fun c => Cert.KernelIdeal.Gen.yArr m c, fun c => Cert.KernelIdeal.Gen.codes m c, fun c => Cert.KernelIdeal.Gen.scales m c,
    fun c => Cert.KernelIdeal.Gen.hist m c, ?_, ?_⟩
  · refine (θ_run _ _ _).mono (fun r h c => ?_) (θ_run_and (kernel_run m g) (Cert.KernelIdeal.Gen.unchanged m g))
    obtain ⟨a, b, d, e⟩ := h.1 c
    exact ⟨a, b, d, e, h.2 c⟩
  · refine (θ_run _ _ _).mono (fun r h c => ?_) (Cert.ReferenceIdeal.Gen.run_main m' g')
    obtain ⟨e0, e1, e2, e3, e4⟩ := he c
    obtain ⟨hd, fin⟩ := Cert.Pre_pre.Gen.premise _ _ _ _ _ (hpre c)
    refine ⟨?_, ?_, ?_, ?_, Cert.ReferenceIdeal.Value.kept_main_arg0 m' r h c, Cert.ReferenceIdeal.Value.kept_main_arg1 m' r h c,
      Cert.ReferenceIdeal.Value.kept_main_arg2 m' r h c, Cert.ReferenceIdeal.Value.kept_main_arg3 m' r h c,
      Cert.ReferenceIdeal.Value.kept_main_arg4 m' r h c⟩
    · exact (Cert.ReferenceIdeal.Value.post5 m' r h c).trans ((Cert.ReferenceIdeal.Gen.final5 m' c).trans (product_meet m m' c e0 e1 e2 e3 e4 fin hd).symm)
    · exact (Cert.ReferenceIdeal.Value.post6 m' r h c).trans ((Cert.ReferenceIdeal.Gen.final6 m' c).trans (codes_meet m m' c e0 e1 fin).symm)
    · exact ((h c).2 Cert.ReferenceIdeal.main_v64 (Pipeline.mem_restRefs_of Cert.ReferenceIdeal.main_v64 (by decide) (by decide))).trans
        (scales_meet m m' c e1 fin).symm
    · exact ((h c).2 Cert.ReferenceIdeal.main_v63 (Pipeline.mem_restRefs_of Cert.ReferenceIdeal.main_v63 (by decide) (by decide))).trans
        (hist_meet m m' c e0 e1).symm

end Cert.Meet
end
-- ==== Proof.lean ====
/- The proof of the certificate's claims: each program runs, leaves its arguments as they were and every counter at zero;
   the kernel and its idealization differ only where stated; and the idealized kernel gives the reference's four results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_pre
public import proofs.«01_k».proof.Proof.Run
public import proofs.«01_k».proof.Proof.PrintedRun
public import proofs.«01_k».proof.Proof.Algebraic

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Pre_pre.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  trivial,
  Cert.Meet.algebraic⟩

end Cert.Proof

end
